-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S8x256x1024 : Shape := ⟨3, ![8, 256, 1024]⟩
abbrev S8 : Shape := ⟨1, ![8]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 2
  | .vmem => 8
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .bf16⟩
  | .local _ .vmem, ⟨0, _⟩ => ⟨S8x256x1024, .f32⟩
  | .local _ .vmem, ⟨1, _⟩ => ⟨S8x256x1024, .f32⟩
  | .local _ .vmem, ⟨2, _⟩ => ⟨S8x256x1024, .f32⟩
  | .local _ .vmem, ⟨3, _⟩ => ⟨S8x256x1024, .bf16⟩
  | .local _ .vmem, ⟨4, _⟩ => ⟨S8x256x1024, .bf16⟩
  | .local _ .vmem, ⟨5, _⟩ => ⟨S8x256x1024, .bf16⟩
  | .local _ .vmem, ⟨6, _⟩ => ⟨S8x256x1024, .bf16⟩
  | .local _ .vmem, ⟨7, _⟩ => ⟨S8x256x1024, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 2 72 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_8 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  let v14 : BitVec 32 := Scalar.addi v11 c0_i32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  ![0, v14.toNat, v10.toNat]
def k0_off2 (d0 : Dev nD) (c0_i32_44 : BitVec 32) : Fin 3 → Nat :=
  let c0_i32_45 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  let v70 : BitVec 32 := Scalar.addi v11 c0_i32_44
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  ![0, v70.toNat, v8.toNat]
def k0_off3 (d0 : Dev nD) (c0_i32_92 : BitVec 32) : Fin 3 → Nat :=
  let c0_i32_93 : BitVec 32 := 0#32
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c2048_i32_7 : BitVec 32 := 2048#32
  let v13 : BitVec 32 := Scalar.muli v12 c2048_i32_7
  let v126 : BitVec 32 := Scalar.addi v13 c0_i32_92
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  ![0, v126.toNat, v8.toNat]
def k0_dev1 (d0 : Dev nD) : Nat :=
  let c0_i32_142 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_141 : BitVec 32 := 2#32
  let v183 : BitVec 32 := Scalar.muli v6 c2_i32_141
  let v184 : BitVec 32 := Scalar.addi c0_i32_142 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_143 : BitVec 32 := 1#32
  let v185 : BitVec 32 := Scalar.muli v5 c1_i32_143
  let v186 : BitVec 32 := Scalar.addi v184 v185
  v186.toNat
def k0_dev2 (d0 : Dev nD) : Nat :=
  let c0_i32_146 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_145 : BitVec 32 := 2#32
  let v187 : BitVec 32 := Scalar.muli v2 c2_i32_145
  let v188 : BitVec 32 := Scalar.addi c0_i32_146 v187
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_147 : BitVec 32 := 1#32
  let v189 : BitVec 32 := Scalar.muli v7 c1_i32_147
  let v190 : BitVec 32 := Scalar.addi v188 v189
  v190.toNat
def k0_dev3 (d0 : Dev nD) : Nat :=
  let c0_i32_165 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_164 : BitVec 32 := 2#32
  let v204 : BitVec 32 := Scalar.muli v6 c2_i32_164
  let v205 : BitVec 32 := Scalar.addi c0_i32_165 v204
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v206 : BitVec 32 := Scalar.muli v5 c1_i32_166
  let v207 : BitVec 32 := Scalar.addi v205 v206
  v207.toNat
def k0_dev4 (d0 : Dev nD) : Nat :=
  let c0_i32_187 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_186 : BitVec 32 := 2#32
  let v229 : BitVec 32 := Scalar.muli v6 c2_i32_186
  let v230 : BitVec 32 := Scalar.addi c0_i32_187 v229
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_188 : BitVec 32 := 1#32
  let v231 : BitVec 32 := Scalar.muli v5 c1_i32_188
  let v232 : BitVec 32 := Scalar.addi v230 v231
  v232.toNat
def k0_dev5 (d0 : Dev nD) : Nat :=
  let c0_i32_209 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_208 : BitVec 32 := 2#32
  let v254 : BitVec 32 := Scalar.muli v6 c2_i32_208
  let v255 : BitVec 32 := Scalar.addi c0_i32_209 v254
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_210 : BitVec 32 := 1#32
  let v256 : BitVec 32 := Scalar.muli v5 c1_i32_210
  let v257 : BitVec 32 := Scalar.addi v255 v256
  v257.toNat
def k0_dev6 (d0 : Dev nD) : Nat :=
  let c0_i32_231 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_230 : BitVec 32 := 2#32
  let v279 : BitVec 32 := Scalar.muli v6 c2_i32_230
  let v280 : BitVec 32 := Scalar.addi c0_i32_231 v279
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_232 : BitVec 32 := 1#32
  let v281 : BitVec 32 := Scalar.muli v5 c1_i32_232
  let v282 : BitVec 32 := Scalar.addi v280 v281
  v282.toNat
def k0_dev7 (d0 : Dev nD) : Nat :=
  let c0_i32_253 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_252 : BitVec 32 := 2#32
  let v304 : BitVec 32 := Scalar.muli v6 c2_i32_252
  let v305 : BitVec 32 := Scalar.addi c0_i32_253 v304
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_254 : BitVec 32 := 1#32
  let v306 : BitVec 32 := Scalar.muli v5 c1_i32_254
  let v307 : BitVec 32 := Scalar.addi v305 v306
  v307.toNat
def k0_dev8 (d0 : Dev nD) : Nat :=
  let c0_i32_275 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_274 : BitVec 32 := 2#32
  let v329 : BitVec 32 := Scalar.muli v6 c2_i32_274
  let v330 : BitVec 32 := Scalar.addi c0_i32_275 v329
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_276 : BitVec 32 := 1#32
  let v331 : BitVec 32 := Scalar.muli v5 c1_i32_276
  let v332 : BitVec 32 := Scalar.addi v330 v331
  v332.toNat
def k0_dev9 (d0 : Dev nD) : Nat :=
  let c0_i32_297 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_296 : BitVec 32 := 2#32
  let v354 : BitVec 32 := Scalar.muli v6 c2_i32_296
  let v355 : BitVec 32 := Scalar.addi c0_i32_297 v354
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_298 : BitVec 32 := 1#32
  let v356 : BitVec 32 := Scalar.muli v5 c1_i32_298
  let v357 : BitVec 32 := Scalar.addi v355 v356
  v357.toNat
def k0_dev10 (d0 : Dev nD) : Nat :=
  let c0_i32_319 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_318 : BitVec 32 := 2#32
  let v379 : BitVec 32 := Scalar.muli v6 c2_i32_318
  let v380 : BitVec 32 := Scalar.addi c0_i32_319 v379
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_320 : BitVec 32 := 1#32
  let v381 : BitVec 32 := Scalar.muli v5 c1_i32_320
  let v382 : BitVec 32 := Scalar.addi v380 v381
  v382.toNat
def k0_dev11 (d0 : Dev nD) : Nat :=
  let c0_i32_341 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_340 : BitVec 32 := 2#32
  let v401 : BitVec 32 := Scalar.muli v2 c2_i32_340
  let v402 : BitVec 32 := Scalar.addi c0_i32_341 v401
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_342 : BitVec 32 := 1#32
  let v403 : BitVec 32 := Scalar.muli v7 c1_i32_342
  let v404 : BitVec 32 := Scalar.addi v402 v403
  v404.toNat
def k0_off4 (d0 : Dev nD) (c0_i32_362 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  let v430 : BitVec 32 := Scalar.addi v11 c0_i32_362
  let c0_i32_365 : BitVec 32 := 0#32
  ![v430.toNat, 0]
def k0_dev12 (d0 : Dev nD) : Nat :=
  let c0_i32_384 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_383 : BitVec 32 := 2#32
  let v446 : BitVec 32 := Scalar.muli v2 c2_i32_383
  let v447 : BitVec 32 := Scalar.addi c0_i32_384 v446
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_385 : BitVec 32 := 1#32
  let v448 : BitVec 32 := Scalar.muli v7 c1_i32_385
  let v449 : BitVec 32 := Scalar.addi v447 v448
  v449.toNat
def k0_dev13 (d0 : Dev nD) : Nat :=
  let c0_i32_427 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_426 : BitVec 32 := 2#32
  let v491 : BitVec 32 := Scalar.muli v2 c2_i32_426
  let v492 : BitVec 32 := Scalar.addi c0_i32_427 v491
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_428 : BitVec 32 := 1#32
  let v493 : BitVec 32 := Scalar.muli v7 c1_i32_428
  let v494 : BitVec 32 := Scalar.addi v492 v493
  v494.toNat
def k0_dev14 (d0 : Dev nD) : Nat :=
  let c0_i32_470 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_469 : BitVec 32 := 2#32
  let v536 : BitVec 32 := Scalar.muli v2 c2_i32_469
  let v537 : BitVec 32 := Scalar.addi c0_i32_470 v536
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_471 : BitVec 32 := 1#32
  let v538 : BitVec 32 := Scalar.muli v7 c1_i32_471
  let v539 : BitVec 32 := Scalar.addi v537 v538
  v539.toNat
def k0_dev15 (d0 : Dev nD) : Nat :=
  let c0_i32_513 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_512 : BitVec 32 := 2#32
  let v581 : BitVec 32 := Scalar.muli v2 c2_i32_512
  let v582 : BitVec 32 := Scalar.addi c0_i32_513 v581
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_514 : BitVec 32 := 1#32
  let v583 : BitVec 32 := Scalar.muli v7 c1_i32_514
  let v584 : BitVec 32 := Scalar.addi v582 v583
  v584.toNat
def k0_dev16 (d0 : Dev nD) : Nat :=
  let c0_i32_556 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_555 : BitVec 32 := 2#32
  let v626 : BitVec 32 := Scalar.muli v2 c2_i32_555
  let v627 : BitVec 32 := Scalar.addi c0_i32_556 v626
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_557 : BitVec 32 := 1#32
  let v628 : BitVec 32 := Scalar.muli v7 c1_i32_557
  let v629 : BitVec 32 := Scalar.addi v627 v628
  v629.toNat
def k0_dev17 (d0 : Dev nD) : Nat :=
  let c0_i32_599 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_598 : BitVec 32 := 2#32
  let v671 : BitVec 32 := Scalar.muli v2 c2_i32_598
  let v672 : BitVec 32 := Scalar.addi c0_i32_599 v671
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_600 : BitVec 32 := 1#32
  let v673 : BitVec 32 := Scalar.muli v7 c1_i32_600
  let v674 : BitVec 32 := Scalar.addi v672 v673
  v674.toNat
def k0_dev18 (d0 : Dev nD) : Nat :=
  let c0_i32_642 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_641 : BitVec 32 := 2#32
  let v716 : BitVec 32 := Scalar.muli v2 c2_i32_641
  let v717 : BitVec 32 := Scalar.addi c0_i32_642 v716
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_643 : BitVec 32 := 1#32
  let v718 : BitVec 32 := Scalar.muli v7 c1_i32_643
  let v719 : BitVec 32 := Scalar.addi v717 v718
  v719.toNat
def k0_off5 (d0 : Dev nD) (c0_i32_695 : BitVec 32) : Fin 2 → Nat :=
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c2048_i32_7 : BitVec 32 := 2048#32
  let v13 : BitVec 32 := Scalar.muli v12 c2048_i32_7
  let v778 : BitVec 32 := Scalar.addi v13 c0_i32_695
  let c0_i32_698 : BitVec 32 := 0#32
  ![v778.toNat, 0]
def k0_dev19 (d0 : Dev nD) : Nat :=
  let c0_i32_1167_r0 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1166_r0 : BitVec 32 := 2#32
  let v1208_r0 : BitVec 32 := Scalar.muli v6 c2_i32_1166_r0
  let v1209_r0 : BitVec 32 := Scalar.addi c0_i32_1167_r0 v1208_r0
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1168_r0 : BitVec 32 := 1#32
  let v1210_r0 : BitVec 32 := Scalar.muli v5 c1_i32_1168_r0
  let v1211_r0 : BitVec 32 := Scalar.addi v1209_r0 v1210_r0
  v1211_r0.toNat
def k0_dev20 (d0 : Dev nD) : Nat :=
  let c0_i32_1171_r0 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1170_r0 : BitVec 32 := 2#32
  let v1212_r0 : BitVec 32 := Scalar.muli v2 c2_i32_1170_r0
  let v1213_r0 : BitVec 32 := Scalar.addi c0_i32_1171_r0 v1212_r0
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1172_r0 : BitVec 32 := 1#32
  let v1214_r0 : BitVec 32 := Scalar.muli v7 c1_i32_1172_r0
  let v1215_r0 : BitVec 32 := Scalar.addi v1213_r0 v1214_r0
  v1215_r0.toNat
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | .hbm, ⟨3, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/- The kernel's body as a sequence of chunk steps. The kernel cuts each device's work into eight chunks of 256 rows;
   every phase of the body does the same thing for each chunk. This module names the buffers, the chunk views, the
   semaphores, one program step per phase (in the chunk's index), and shows that the body is their sequence. -/
module

public import proofs.«01_k».proof.Proof.Gen.KernelIdeal.Launch
public import proofs.«01_k».proof.Proof.Gen.KernelIdeal.Skeleton

@[expose] public section

noncomputable section

namespace Cert.KernelIdeal.Exchange

open Idealize.ShloMosaic Idealize.ShloMosaic.TcCoe Idealize.ShloMosaic.Pipeline
open Idealize.SL Idealize.SL.Sem
open Cert.KernelIdeal Cert.KernelIdeal.Gen

variable {F : FTy → Type} [FloatOps F]

/-! ## Buffers and chunk views -/

abbrev xM : Memref sig .tc .hbm S1x4096x2048 .f32 := Memref.whole main_arg0
abbrev outM : Memref sig .tc .hbm S4096x1024 .bf16 := Memref.whole main_v1
abbrev fsM : Memref sig .tc .vmem S8x256x1024 .f32 := Memref.whole cc0_scratch0
abbrev faM : Memref sig .tc .vmem S8x256x1024 .f32 := Memref.whole cc0_scratch1
abbrev fbM : Memref sig .tc .vmem S8x256x1024 .f32 := Memref.whole cc0_scratch2
abbrev xsM : Memref sig .tc .vmem S8x256x1024 .bf16 := Memref.whole cc0_scratch3
abbrev xrM : Memref sig .tc .vmem S8x256x1024 .bf16 := Memref.whole cc0_scratch4
abbrev yrM : Memref sig .tc .vmem S8x256x1024 .bf16 := Memref.whole cc0_scratch5
abbrev oaM : Memref sig .tc .vmem S8x256x1024 .bf16 := Memref.whole cc0_scratch6
abbrev obM : Memref sig .tc .vmem S8x256x1024 .bf16 := Memref.whole cc0_scratch7

/-- Every slot lies in the buffer. -/
theorem slot_inb : ∀ k : Fin 8, ∀ a, (![k.val, 0, 0] : Fin 3 → Nat) a + S1x256x1024.size a ≤ S8x256x1024.size a := by decide
/-- The rectangle of chunk `k`'s slot in a buffer of eight slots. -/
abbrev slotR (k : Fin 8) : Rect S8x256x1024 := Rect.unit (s := S8x256x1024) ![k.val, 0, 0] S1x256x1024.size (slot_inb k)
/-- Chunk `k`'s slot, as 256 rows of 1024. -/
abbrev slot {e : EltTy} (M : Memref sig .tc .vmem S8x256x1024 e) (k : Fin 8) : Memref sig .tc .vmem S256x1024 e :=
  (M.slice (slotR k) (fun _ => rfl)).squeeze S256x1024 squeezes_S1x256x1024_S256x1024

/-- The chunk's row offset, as the word the kernel computes with. -/
abbrev rowW (k : Fin 8) : BitVec 32 := BitVec.ofNat 32 (256 * k.val)

/-- Of device `c`'s input: the part of chunk `k` it sends across the first mesh axis, -/
abbrev srcS (c : Dev nD) (k : Fin 8) : Memref sig .tc .hbm S256x1024 .f32 :=
  (xM.slice (Rect.unit (s := S1x4096x2048) (k0_off1 c (rowW k)) S1x256x1024.size (k0_off1_inb c k)) (fun _ => rfl)).squeeze S256x1024 squeezes_S1x256x1024_S256x1024
/-- the part it adds in its own half of the rows, -/
abbrev srcA (c : Dev nD) (k : Fin 8) : Memref sig .tc .hbm S256x1024 .f32 :=
  (xM.slice (Rect.unit (s := S1x4096x2048) (k0_off2 c (rowW k)) S1x256x1024.size (k0_off2_inb c k)) (fun _ => rfl)).squeeze S256x1024 squeezes_S1x256x1024_S256x1024
/-- and the part it adds in the other half. -/
abbrev srcB (c : Dev nD) (k : Fin 8) : Memref sig .tc .hbm S256x1024 .f32 :=
  (xM.slice (Rect.unit (s := S1x4096x2048) (k0_off3 c (rowW k)) S1x256x1024.size (k0_off3_inb c k)) (fun _ => rfl)).squeeze S256x1024 squeezes_S1x256x1024_S256x1024

/-- The rows of the result chunk `k` fills in the device's own half, and in the other half. -/
abbrev dstA (c : Dev nD) (k : Fin 8) : Memref sig .tc .hbm S256x1024 .bf16 :=
  outM.slice (Rect.unit (s := S4096x1024) (k0_off4 c (rowW k)) S256x1024.size (k0_off4_inb c k)) (fun _ => rfl)
/-- The rows of the result chunk `k` fills in the other half. -/
abbrev dstB (c : Dev nD) (k : Fin 8) : Memref sig .tc .hbm S256x1024 .bf16 :=
  outM.slice (Rect.unit (s := S4096x1024) (k0_off5 c (rowW k)) S256x1024.size (k0_off5_inb c k)) (fun _ => rfl)

/-! ## Semaphores and peers -/

/-- Every semaphore of an array lies in it. -/
theorem sem_inb : ∀ k : Fin 8, ∀ a, (![k.val] : Fin 1 → Nat) a + S1.size a ≤ S8.size a := by decide
/-- The `k`-th semaphore of an array of eight. -/
abbrev semAt (A : DmaSems sig S8) (k : Fin 8) : DmaSem sig :=
  ((A.slice (Rect.unit (s := S8) ![k.val] S1.size (sem_inb k))).squeeze S_ squeezes_S1_S_).sem

/-- The nine arrays of DMA semaphores, in the order the kernel allocates them. -/
abbrev arrs : Fin 9 → DmaSems sig S8
  | 0 => cc0_scratch8 | 1 => cc0_scratch9 | 2 => cc0_scratch10 | 3 => cc0_scratch11 | 4 => cc0_scratch12
  | 5 => cc0_scratch13 | 6 => cc0_scratch14 | 7 => cc0_scratch15 | 8 => cc0_scratch16

/-- The barrier semaphore, and the kernel's exit semaphore. -/
abbrev barS : Sem sig := (SemArray.scalar (sig.barrier 0 rfl) : Sems sig S_).sem
/-- The kernel's exit semaphore. -/
abbrev exitS : Sem sig := (cc0_scoped0 : Sems sig S_).sem

/-- The neighbours along the first and the second mesh axis, as the kernel computes them. -/
def xdev (c : Dev nD) : Dev nD := ⟨k0_dev1 c, k0_dev1_lt c⟩
/-- The neighbour along the second mesh axis. -/
def ydev (c : Dev nD) : Dev nD := ⟨k0_dev2 c, k0_dev2_lt c⟩

/-! ## Access evidence, for every chunk -/

/-- A slot of bf16 consists of whole words. -/
theorem slot_words : ∀ k : Fin 8, (slotR k).WholeWords (EltTy.packing .bf16) := by decide
/-- A slot of bf16 consists of whole packed rows. -/
theorem slot_packed : ∀ k : Fin 8, (slotR k).PackedRows (EltTy.packing .bf16) := by decide

/-- A slot of bf16 is transferred in whole words, -/
theorem slot_exact {M : Memref sig .tc .vmem S8x256x1024 .bf16} (hM : M.IsWhole) (k : Fin 8) : (slot M k).view.WordExact :=
  (hM.wordExact_slice rfl _ (slot_words k)).reshape _ _
/-- and so is one of f32. -/
theorem slot_exact32 {M : Memref sig .tc .vmem S8x256x1024 .f32} (k : Fin 8) : (slot M k).view.WordExact :=
  (View.wordExact_bits rfl).reshape _ _

/-! ## The arithmetic of a chunk -/

/-- A chunk rounded to bf16, as the kernel computes it from a slot. -/
def roundPay (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024
/-- A chunk plus the received one, rounded to bf16, as the kernel computes it from two slots. -/
def addPay (v : Vec F S1x256x1024 .f32) (w : Vec F S1x256x1024 .bf16) : FVec F S1x256x1024 .bf16 :=
  shapeCast S1x256x1024 (truncf .bf16 (addf (shapeCast S256x1024 v shapeCasts_S1x256x1024_S256x1024)
    (extf .f32 (shapeCast S256x1024 w shapeCasts_S1x256x1024_S256x1024) bitsLt_bf16_f32)) bitsLt_bf16_f32) shapeCasts_S256x1024_S1x256x1024

/-! ## The steps -/

/-- A program of the kernel body. -/
abbrev BProg (F : FTy → Type) : Type 1 := Prog (TpuEff nD τ sig (Elt F) Λ₀ .tc) PUnit

/-- Start copying a chunk of the input into a slot. -/
def fetch (s : Memref sig .tc .hbm S256x1024 .f32) (hs : s.view.WordExact) (M : Memref sig .tc .vmem S8x256x1024 .f32) (a : Fin 9) (k : Fin 8) (K : BProg F) : BProg F :=
  .op (.enqueueDma s (.here (slot M k)) (.dma (semAt (arrs a) k)) hs (slot_exact32 k) ⟨Or.inl rfl, trivial⟩) fun _ => K
/-- The sent part of the input is transferred in whole words, -/
theorem srcS_exact (c : Dev nD) (k : Fin 8) : (srcS c k).view.WordExact := (View.wordExact_bits rfl).reshape _ _
/-- and so is the part of the own half, -/
theorem srcA_exact (c : Dev nD) (k : Fin 8) : (srcA c k).view.WordExact := (View.wordExact_bits rfl).reshape _ _
/-- and that of the other half, -/
theorem srcB_exact (c : Dev nD) (k : Fin 8) : (srcB c k).view.WordExact := (View.wordExact_bits rfl).reshape _ _
/-- as are the rows of the result in the own half, -/
theorem dstA_exact (c : Dev nD) (k : Fin 8) : (dstA c k).view.WordExact := (Memref.isWhole_whole main_v1).wordExact_slice rfl _ (k0_off4_wordsbf16 c k)
/-- and those in the other half. -/
theorem dstB_exact (c : Dev nD) (k : Fin 8) : (dstB c k).view.WordExact := (Memref.isWhole_whole main_v1).wordExact_slice rfl _ (k0_off5_wordsbf16 c k)

/-- Wait on the `k`-th semaphore of array `a`; the two views give the amount. -/
def await {sp sp' : Space} {e : EltTy} (s : Memref sig .tc sp S256x1024 e) (hs : s.view.WordExact) (d : Memref sig .tc sp' S256x1024 e) (hd : d.view.WordExact)
    (a : Fin 9) (k : Fin 8) (K : BProg F) : BProg F :=
  .op (.waitDma2 (semAt (arrs a) k) s d hs hd) fun _ => K

/-- Read chunk `k`'s slot. -/
def readSlot {e : EltTy} (M : Memref sig .tc .vmem S8x256x1024 e) (k : Fin 8) (K : Vec F S1x256x1024 e → BProg F) : BProg F :=
  .op (.load M (slotR k).toLoadRect (View.loadsAt_vmem h_S1x256x1024)) K
/-- Fill chunk `k`'s slot. -/
def fillSlot (M : Memref sig .tc .vmem S8x256x1024 .bf16) (hM : M.IsWhole) (k : Fin 8) (w : Vec F S1x256x1024 .bf16) (K : BProg F) : BProg F :=
  .op (.store M (slotR k) w Finset.univ (View.stores_vmem h_S1x256x1024 (hM.storeExact_slice rfl _ (slot_packed k)) (fun _ => rfl)) (.inl rfl)) fun _ => K

/-- Start sending a slot to a neighbour's slot. -/
def send (n : Dev nD) (M : Memref sig .tc .vmem S8x256x1024 .bf16) (hM : M.IsWhole) (M' : Memref sig .tc .vmem S8x256x1024 .bf16) (hM' : M'.IsWhole)
    (hsc : M'.view.ref.isScScratch = false) (a b : Fin 9) (k : Fin 8) (K : BProg F) : BProg F :=
  .op (.enqueueDma (slot M k) (.remote (Dev.tc n) (slot M' k) (.dma (semAt (arrs a) k)) hsc) (.dma (semAt (arrs b) k))
    (slot_exact hM k) (slot_exact hM' k) ⟨⟨rfl, Or.inl rfl⟩, trivial⟩) fun _ => K

/-- Start copying a slot into rows of the result. -/
def putOut (M : Memref sig .tc .vmem S8x256x1024 .bf16) (hM : M.IsWhole) (d : Memref sig .tc .hbm S256x1024 .bf16) (hd : d.view.WordExact) (a : Fin 9) (k : Fin 8) (K : BProg F) : BProg F :=
  .op (.enqueueDma (slot M k) (.here d) (.dma (semAt (arrs a) k)) (slot_exact hM k) hd ⟨Or.inl rfl, trivial⟩) fun _ => K

/-- Phase 1 of chunk `k`: round the fetched part to bf16 and start sending it across the first axis. -/
def sendStep (c : Dev nD) (k : Fin 8) (K : BProg F) : BProg F :=
  await (srcS c k) (srcS_exact c k) (slot fsM k) (slot_exact32 k) 0 k <|
  readSlot fsM k fun v => readSlot xsM k fun _ =>
  fillSlot xsM (Memref.isWhole_whole _) k (roundPay v) <|
  send (xdev c) xsM (Memref.isWhole_whole _) xrM (Memref.isWhole_whole _) rfl 5 6 k K

/-- Phase 2: receive the chunk across the first axis, forward it across the second, add the own part and start
    writing the sum out. -/
def ownStep (c : Dev nD) (k : Fin 8) (K : BProg F) : BProg F :=
  await (slot xsM k) (slot_exact (Memref.isWhole_whole _) k) (slot xrM k) (slot_exact (Memref.isWhole_whole _) k) 6 k <|
  send (ydev c) xrM (Memref.isWhole_whole _) yrM (Memref.isWhole_whole _) rfl 7 8 k <|
  await (srcA c k) (srcA_exact c k) (slot faM k) (slot_exact32 k) 1 k <|
  readSlot faM k fun v => readSlot xrM k fun w => readSlot oaM k fun _ =>
  fillSlot oaM (Memref.isWhole_whole _) k (addPay v w) <|
  putOut oaM (Memref.isWhole_whole _) (dstA c k) (dstA_exact c k) 3 k K

/-- Phase 3: receive the forwarded chunk across the second axis, add the own part of the other half and start writing
    the sum out. -/
def otherStep (c : Dev nD) (k : Fin 8) (K : BProg F) : BProg F :=
  await (slot xrM k) (slot_exact (Memref.isWhole_whole _) k) (slot yrM k) (slot_exact (Memref.isWhole_whole _) k) 8 k <|
  await (srcB c k) (srcB_exact c k) (slot fbM k) (slot_exact32 k) 2 k <|
  readSlot fbM k fun v => readSlot yrM k fun w => readSlot obM k fun _ =>
  fillSlot obM (Memref.isWhole_whole _) k (addPay v w) <|
  putOut obM (Memref.isWhole_whole _) (dstB c k) (dstB_exact c k) 4 k K

/-- Phase 4: wait for the chunk's two sends and its two writes of the result. -/
def drainStep (c : Dev nD) (k : Fin 8) (K : BProg F) : BProg F :=
  await (slot xrM k) (slot_exact (Memref.isWhole_whole _) k) (slot xsM k) (slot_exact (Memref.isWhole_whole _) k) 5 k <|
  await (slot yrM k) (slot_exact (Memref.isWhole_whole _) k) (slot xrM k) (slot_exact (Memref.isWhole_whole _) k) 7 k <|
  await (slot oaM k) (slot_exact (Memref.isWhole_whole _) k) (dstA c k) (dstA_exact c k) 3 k <|
  await (slot obM k) (slot_exact (Memref.isWhole_whole _) k) (dstB c k) (dstB_exact c k) 4 k K

/-- A step for each chunk, in order. -/
def eachChunk (step : Fin 8 → BProg F → BProg F) (K : BProg F) : BProg F :=
  step 0 <| step 1 <| step 2 <| step 3 <| step 4 <| step 5 <| step 6 <| step 7 K

/-- Signal both neighbours on a semaphore and wait for both. -/
def meet (c : Dev nD) (s : Sem sig) (K : BProg F) : BProg F :=
  .op (.semSignal (Dev.tc (xdev c)) s (1#32).toInt) fun _ => .op (.semSignal (Dev.tc (ydev c)) s (1#32).toInt) fun _ => .op (.semWait s (2#32).toInt) fun _ => K

/-- The body on device `c`. -/
def bodyOn (c : Dev nD) : BProg F :=
  eachChunk (fun k => fetch (srcS c k) (srcS_exact c k) fsM 0 k) <|
  eachChunk (fun k => fetch (srcA c k) (srcA_exact c k) faM 1 k) <|
  eachChunk (fun k => fetch (srcB c k) (srcB_exact c k) fbM 2 k) <|
  meet c barS <|
  eachChunk (sendStep c) <| eachChunk (ownStep c) <| eachChunk (otherStep c) <| eachChunk (drainStep c) <|
  meet c exitS <| .ret ⟨⟩

set_option maxRecDepth 100000 in
/-- The kernel's body reads its device's number and runs the sequence of chunk steps for it. -/
theorem body_eq :
    (cc0_body_skel (F := F) (Memref.whole main_arg0) (Memref.isWhole_whole _) (Memref.whole main_v1) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _)
      (Memref.whole cc0_scratch7) (Memref.isWhole_whole _) cc0_scratch8 cc0_scratch9 cc0_scratch10 cc0_scratch11 cc0_scratch12 cc0_scratch13 cc0_scratch14 cc0_scratch15 cc0_scratch16
      cc0_scoped0)
      = .op .deviceId fun c => bodyOn c := by
  chain_rfl

end Cert.KernelIdeal.Exchange

end
-- ==== Proof.Protocol.lean ====
/- What the devices' semaphores promise one another. Every semaphore cell is used for one round: a DMA cell receives the
   credit of one transfer, the barrier and the exit cell one unit from each of the two neighbours. This module states, per
   cell, what its round hands the owner, what each device owes at launch, and why no wait can block. -/
module

public import proofs.«01_k».proof.Proof.Steps
public import Idealize.ShloMosaic.Lib.Pipeline.Launch
public import Idealize.ShloMosaic.Lib.Pipeline.Kit
public import Idealize.ShloMosaic.Lib.Ring
public import Idealize.ShloMosaic.Lib.Memref
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy (duties `Unit`) and the exchange's (duties `Bool`) -/

/-- The exchange's resources. -/
abbrev UB : Type := URounds (GSem nD τ sig) Bool
/-- Both kinds of resources together. -/
abbrev UU : Type := UR sig nD τ × UB

local notation "𝕄" => MT nD τ sig Unit (Elt F) ℕ UU ℕ

/-- Where the pipeline's resources lie among all. -/
abbrev EP : Emb (UR sig nD τ) (MT nD τ sig Unit (Elt F) ℕ UU ℕ) := embL
/-- Where the exchange's resources lie among all. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Neighbours -/

/-- The first neighbour's first neighbour is the device. -/
theorem xdev_xdev (c : Dev nD) : xdev (xdev c) = c := by revert c; unfold xdev; decide +kernel
/-- The second neighbour's second neighbour is the device. -/
theorem ydev_ydev (c : Dev nD) : ydev (ydev c) = c := by revert c; unfold ydev; decide +kernel

/-- The first neighbour, as a bijection of the devices. -/
def xEquiv : Dev nD ≃ Dev nD := ⟨xdev, xdev, xdev_xdev, xdev_xdev⟩
/-- The second neighbour, as a bijection of the devices. -/
def yEquiv : Dev nD ≃ Dev nD := ⟨ydev, ydev, ydev_ydev, ydev_ydev⟩

/-! ## Cells -/

/-- The cells of a device: one for each array of DMA semaphores and chunk, the barrier (`true`), the exit (`false`). -/
abbrev CI : Type := (Fin 9 × Fin 8) ⊕ Bool
/-- The regular semaphore of the barrier, and of the exit. -/
abbrev regS : Bool → Sem sig
  | true => barS
  | false => exitS
/-- The semaphore of a cell's name. -/
abbrev csem : CI → SemLoc sig
  | .inl p => .dma (semAt (arrs p.1) p.2)
  | .inr b => .reg (regS b)
/-- A device's cell. -/
abbrev kcell (p : Dev nD × CI) : GSem nD τ sig := ((p.1 : Thread nD τ), csem p.2)
/-- A device's DMA cell, by array and chunk. -/
abbrev dcell (c : Dev nD) (a : Fin 9) (k : Fin 8) : GSem nD τ sig := ((c : Thread nD τ), .dma (semAt (arrs a) k))
/-- A device's barrier or exit cell. -/
abbrev rcell (c : Dev nD) (b : Bool) : GSem nD τ sig := kcell (c, .inr b)

/-- The `k`-th semaphore of array `a` is number `8 a + k`. -/
theorem semAt_val : ∀ (a : Fin 9) (k : Fin 8), (semAt (arrs a) k).val = 8 * a.val + k.val := by decide +kernel

/-- Different names of cells are different semaphores. -/
theorem csem_injective : Function.Injective csem := by
  rintro (⟨a, k⟩ | b) (⟨a', k'⟩ | b') h
  · have h1 : semAt (arrs a) k = semAt (arrs a') k' := SemLoc.dma.inj h
    have h2 := congrArg Fin.val h1
    rw [semAt_val, semAt_val] at h2
    have : a = a' := Fin.ext (by omega)
    have : k = k' := Fin.ext (by omega)
    subst_vars; rfl
  · cases h
  · cases h
  · revert h; revert b b'; decide

/-- Different devices or different names are different cells. -/
theorem kcell_injective : Function.Injective (kcell : Dev nD × CI → GSem nD τ sig) := by
  rintro ⟨c, i⟩ ⟨c', i'⟩ h
  have h1 : c = c' := congrArg (fun g : GSem nD τ sig => g.1.1) h
  have h2 : i = i' := csem_injective (congrArg Prod.snd h)
  rw [h1, h2]

/-- The array and the chunk of a DMA semaphore. -/
def arrOf (q : DmaSem sig) : Fin 9 := ⟨q.val / 8 % 9, Nat.mod_lt _ (by decide)⟩
/-- The chunk a DMA semaphore counts for. -/
def chunkOf (q : DmaSem sig) : Fin 8 := ⟨q.val % 8, Nat.mod_lt _ (by decide)⟩
/-- The array of a semaphore of array `a` is `a`. -/
theorem arrOf_semAt (a : Fin 9) (k : Fin 8) : arrOf (semAt (arrs a) k) = a := Fin.ext (by
  show (semAt (arrs a) k).val / 8 % 9 = a.val
  rw [semAt_val]; omega)
/-- The chunk of an array's `k`-th semaphore is `k`. -/
theorem chunkOf_semAt (a : Fin 9) (k : Fin 8) : chunkOf (semAt (arrs a) k) = k := Fin.ext (by
  show (semAt (arrs a) k).val % 8 = k.val
  rw [semAt_val]; omega)

/-- The credit of an f32 chunk's transfer into a slot, of a bf16 chunk's, and per array of semaphores. -/
abbrev N32 : ℕ := (slot fsM 0).view.dmaCredit
/-- The credit of a bf16 chunk's transfer. -/
abbrev N16 : ℕ := (slot xsM 0).view.dmaCredit
/-- The credit of the transfers that an array's semaphores count. -/
def credit (a : Fin 9) : ℕ := if a.val < 3 then N32 else N16
/-- Every transfer's credit is positive. -/
theorem credit_pos (a : Fin 9) : 0 < credit a := by
  unfold credit; split
  · exact View.dmaCredit_pos _ (by decide)
  · exact View.dmaCredit_pos _ (by decide)

/-! ## Contents -/

/-- Device `c`'s block of the input. -/
abbrev xin (c : Dev nD) : Buf (Elt F) ((c : Thread nD τ).loc main_arg0) := m ((c : Thread nD τ).loc main_arg0)
/-- The parts of it chunk `k` sends, adds in the own half and adds in the other half. -/
def partS (c : Dev nD) (k : Fin 8) : FVec F S256x1024 .f32 := (srcS c k).view.read (Elt F) (xin m c)
/-- The part added in the own half. -/
def partA (c : Dev nD) (k : Fin 8) : FVec F S256x1024 .f32 := (srcA c k).view.read (Elt F) (xin m c)
/-- The part added in the other half. -/
def partB (c : Dev nD) (k : Fin 8) : FVec F S256x1024 .f32 := (srcB c k).view.read (Elt F) (xin m c)

/-- A chunk rounded to bf16. -/
def rnd (X : FVec F S256x1024 .f32) : FVec F S256x1024 .bf16 := truncf .bf16 X bitsLt_bf16_f32
/-- A chunk plus a received bf16 chunk, rounded to bf16. -/
def addRnd (X : FVec F S256x1024 .f32) (W : FVec F S256x1024 .bf16) : FVec F S256x1024 .bf16 :=
  truncf .bf16 (addf X (extf .f32 W bitsLt_bf16_f32)) bitsLt_bf16_f32

/-- What device `c` sends across the first axis, what it receives there, what it receives across the second axis. -/
def sent (c : Dev nD) (k : Fin 8) : FVec F S256x1024 .bf16 := rnd (partS m c k)
/-- What device `c` receives across the first axis. -/
def gotX (c : Dev nD) (k : Fin 8) : FVec F S256x1024 .bf16 := sent m (xdev c) k
/-- What device `c` receives across the second axis. -/
def gotY (c : Dev nD) (k : Fin 8) : FVec F S256x1024 .bf16 := gotX m (ydev c) k
/-- A computed chunk of the own half. -/
def outA (c : Dev nD) (k : Fin 8) : FVec F S256x1024 .bf16 := addRnd (partA m c k) (gotX m c k)
/-- A computed chunk of the other half. -/
def outB (c : Dev nD) (k : Fin 8) : FVec F S256x1024 .bf16 := addRnd (partB m c k) (gotY m c k)

/-! ## What a cell's round hands its owner -/

/-- Owning a memref outright, whatever it holds. -/
def ownsAny (c : Thread nD τ) {sp : Space} {sh : Shape} {e : EltTy} (M : Memref sig c.2.kind sp sh e) : sProp 𝕄 :=
  iprop(∃ X, owns c M fullShare X)

/-- Owning a memref outright can be kept in a cell's invariant. -/
instance ownsAny_storable (c : Thread nD τ) {sp : Space} {sh : Shape} {e : EltTy} (M : Memref sig c.2.kind sp sh e) :
    BI.Storable (upEmb : UEmb _ 𝕄) (ownsAny (F := F) c M) := by unfold ownsAny; infer_instance

/-- The half of a slot kept while the slot is being sent on, and the half the transfer holds. -/
abbrev keptShare : PosShare TreeShare := fullShare.left
/-- The half a transfer holds. -/
abbrev lentShare : PosShare TreeShare := fullShare.right

/-- What the transfer counted by array `a`'s semaphore for chunk `k` hands device `c`: a fetched part, a send's source
    back, a received chunk, or a written chunk of the result with its source back. -/
def dmaPay (c : Dev nD) : Fin 9 → Fin 8 → sProp 𝕄
  | 0, k => owns (c : Thread nD τ) (slot fsM k) fullShare (partS m c k)
  | 1, k => owns (c : Thread nD τ) (slot faM k) fullShare (partA m c k)
  | 2, k => owns (c : Thread nD τ) (slot fbM k) fullShare (partB m c k)
  | 3, k => iprop(owns (c : Thread nD τ) (dstA c k) fullShare (outA m c k) ∗ ownsAny (c : Thread nD τ) (slot oaM k))
  | 4, k => iprop(owns (c : Thread nD τ) (dstB c k) fullShare (outB m c k) ∗ ownsAny (c : Thread nD τ) (slot obM k))
  | 5, k => ownsAny (c : Thread nD τ) (slot xsM k)
  | 6, k => owns (c : Thread nD τ) (slot xrM k) fullShare (gotX m c k)
  | 7, k => owns (c : Thread nD τ) (slot xrM k) lentShare (gotX m c k)
  | 8, k => owns (c : Thread nD τ) (slot yrM k) fullShare (gotY m c k)

/-- What a neighbour's barrier signal hands device `c`: the neighbour across the first axis (`true`) its slots for
    receiving across that axis, the one across the second axis (`false`) its slots for that axis. -/
def barPay (c : Dev nD) : Bool → sProp 𝕄
  | true => bigSep Finset.univ fun k : Fin 8 => ownsAny (xdev c : Thread nD τ) (slot xrM k)
  | false => bigSep Finset.univ fun k : Fin 8 => ownsAny (ydev c : Thread nD τ) (slot yrM k)

/-- What a transfer hands over can be kept in a cell's invariant. -/
instance dmaPay_storable (c : Dev nD) (a : Fin 9) (k : Fin 8) : BI.Storable (upEmb : UEmb _ 𝕄) (dmaPay (F := F) m c a k) := by
  unfold dmaPay; split <;> infer_instance
/-- What a barrier signal hands over can be kept in a cell's invariant. -/
instance barPay_storable (c : Dev nD) (b : Bool) : BI.Storable (upEmb : UEmb _ 𝕄) (barPay (F := F) c b) := by
  unfold barPay; split <;> infer_instance

/-- The schedule: round 0 only. A DMA cell has the duty `false` of its transfer's credit; the barrier and the exit cell
    have a duty of one unit for each neighbour, and the exit's hands nothing. -/
def sched : Rounds.Schedule (GSem nD τ sig) Bool 𝕄 where
  duties g r := if r = 0 then (match g.2 with | .dma _ => {false} | .reg _ => Finset.univ) else ∅
  amount g _ _ := match g.2 with | .dma q => credit (arrOf q) | .reg _ => 1
  payload g _ d := match g.2 with
    | .dma q => dmaPay m g.1.1 (arrOf q) (chunkOf q)
    | .reg s => if s = barS then barPay g.1.1 d else iprop(emp)
  amount_pos g _ _ _ := by split; exacts [credit_pos _, Nat.one_pos]

/-- Every duty's payload can be kept in its cell's invariant. -/
instance sched_storable (g : GSem nD τ sig) (r : ℕ) (d : Bool) : BI.Storable (upEmb : UEmb _ 𝕄) ((sched (F := F) m).payload g r d) := by
  dsimp only [sched]; split
  · infer_instance
  · split <;> infer_instance

section Sched
variable (c : Dev nD) (a : Fin 9) (k : Fin 8)

/-- A DMA cell's round has one duty. -/
theorem duties_dma : (sched (F := F) m).duties (dcell c a k) 0 = {false} := by dsimp only [sched]; exact if_pos rfl
/-- A barrier's and an exit's round has both duties. -/
theorem duties_reg (b : Bool) : (sched (F := F) m).duties (rcell c b) 0 = Finset.univ := by dsimp only [sched]; exact if_pos rfl
/-- No later round has a duty. -/
theorem duties_later (g : GSem nD τ sig) : ∀ r, 1 ≤ r → (sched (F := F) m).duties g r = ∅ :=
  fun r hr => by dsimp only [sched]; exact if_neg (by omega)
/-- A DMA cell's duty is its transfer's credit. -/
theorem amount_dma (d : Bool) : (sched (F := F) m).amount (dcell c a k) 0 d = credit a := by
  dsimp only [sched]; rw [arrOf_semAt]
/-- A duty of the barrier or the exit is one unit. -/
theorem amount_reg (b d : Bool) : (sched (F := F) m).amount (rcell c b) 0 d = 1 := rfl
/-- A DMA cell's round brings its transfer's credit. -/
theorem expect_dma : (sched (F := F) m).expect (dcell c a k) 0 = credit a := by
  unfold Schedule.expect Schedule.amountOf; rw [duties_dma, Finset.sum_singleton, amount_dma]
/-- A round of the barrier or the exit brings two units. -/
theorem expect_reg (b : Bool) : (sched (F := F) m).expect (rcell c b) 0 = 2 := by
  unfold Schedule.expect Schedule.amountOf
  rw [duties_reg, Finset.sum_congr rfl fun d _ => amount_reg m c b d, Finset.sum_const, Finset.card_univ, Fintype.card_bool, smul_eq_mul]
/-- A DMA cell's duty hands over what its transfer does. -/
theorem payload_dma (d : Bool) : (sched (F := F) m).payload (dcell c a k) 0 d = dmaPay m c a k := by
  dsimp only [sched]; rw [arrOf_semAt, chunkOf_semAt]
/-- A barrier's duty hands over the neighbour's slots. -/
theorem payload_bar (d : Bool) : (sched (F := F) m).payload (rcell c true) 0 d = barPay c d := by
  dsimp only [sched]; exact if_pos rfl
/-- An exit's duty hands over nothing. -/
theorem payload_exit (d : Bool) : (sched (F := F) m).payload (rcell c false) 0 d = iprop(emp) := by
  dsimp only [sched]; exact if_neg (by decide)

/-- All a DMA cell's round hands over, -/
theorem rest_dma : bigSep ((sched (F := F) m).duties (dcell c a k) 0 \ ∅) (fun d => (sched (F := F) m).payload (dcell c a k) 0 d) = dmaPay m c a k := by
  rw [Finset.sdiff_empty, duties_dma, bigSep_singleton, payload_dma]
/-- and all the barrier's. -/
theorem rest_bar : bigSep ((sched (F := F) m).duties (rcell c true) 0 \ ∅) (fun d => (sched (F := F) m).payload (rcell c true) 0 d)
    = iprop(barPay c true ∗ barPay c false) := by
  rw [Finset.sdiff_empty, duties_reg, bigSep_univ_eq_bigSepL [true, false] (by decide) (by decide), bigSepL_cons_cons, bigSepL_singleton,
    payload_bar, payload_bar]
  rfl

end Sched

/-! ## What is owed, and the levels -/

/-- What device `c` owes its neighbours' `b` cell: a unit each. -/
def owedReg (b : Bool) (c : Dev nD) : CellTallies nD τ sig Unit := tallyAt (rcell (ydev c) b) () 1 + tallyAt (rcell (xdev c) b) () 1
/-- What it owes the neighbours' receive cells for the chunks from number `n` on. -/
def owedX (c : Dev nD) (n : ℕ) : CellTallies nD τ sig Unit :=
  ∑ k ∈ Finset.univ.filter (fun k : Fin 8 => n ≤ k.val), tallyAt (dcell (xdev c) 6 k) () (credit 6)
/-- What device `c` still owes its second neighbour from chunk `n` on. -/
def owedY (c : Dev nD) (n : ℕ) : CellTallies nD τ sig Unit :=
  ∑ k ∈ Finset.univ.filter (fun k : Fin 8 => n ≤ k.val), tallyAt (dcell (ydev c) 8 k) () (credit 8)
/-- What it owes after its barrier signals, and at launch. -/
def O₁ (c : Dev nD) : CellTallies nD τ sig Unit := owedReg false c + owedY c 0 + owedX c 0
/-- What device `c` owes at launch. -/
def O₀ (c : Dev nD) : CellTallies nD τ sig Unit := O₁ c + owedReg true c

/-- Paying chunk `k` off. -/
theorem filter_step (k : Fin 8) :
    Finset.univ.filter (fun j : Fin 8 => k.val ≤ j.val) = insert k (Finset.univ.filter (fun j : Fin 8 => k.val + 1 ≤ j.val)) := by
  ext j; simp only [Finset.mem_filter, Finset.mem_univ, true_and, Finset.mem_insert, Fin.ext_iff]; omega
/-- Sending chunk `k` across the first axis pays chunk `k`'s part of what is owed there. -/
theorem owedX_step (c : Dev nD) (k : Fin 8) : owedX c k.val = owedX c (k.val + 1) + tallyAt (dcell (xdev c) 6 k) () (credit 6) := by
  unfold owedX; rw [filter_step, Finset.sum_insert (by simp), add_comm]
/-- Sending chunk `k` across the second axis pays chunk `k`'s part of what is owed there. -/
theorem owedY_step (c : Dev nD) (k : Fin 8) : owedY c k.val = owedY c (k.val + 1) + tallyAt (dcell (ydev c) 8 k) () (credit 8) := by
  unfold owedY; rw [filter_step, Finset.sum_insert (by simp), add_comm]
/-- No chunk has number eight or more. -/
theorem filter_end : Finset.univ.filter (fun j : Fin 8 => 8 ≤ j.val) = ∅ := by decide
/-- After the last chunk nothing is owed across the first axis. -/
theorem owedX_end (c : Dev nD) : owedX c 8 = 0 := by unfold owedX; rw [filter_end, Finset.sum_empty]
/-- After the last chunk nothing is owed across the second axis. -/
theorem owedY_end (c : Dev nD) : owedY c 8 = 0 := by unfold owedY; rw [filter_end, Finset.sum_empty]

/-- The names a cell's tally has: one at a device's main thread, none elsewhere. -/
def L (g : GSem nD τ sig) : Finset Unit := if g.1.2 = .tc then {()} else ∅
/-- Levels: local transfers and send sources 0, the barrier 1, receives across the first axis 2, across the second 3,
    the exit 4. -/
def lv (g : GSem nD τ sig) (_ : Unit) : ℕ := match g.2 with
  | .dma q => if arrOf q = 6 then 2 else if arrOf q = 8 then 3 else 0
  | .reg s => if s = barS then 1 else 4

/-- A thread other than a device's main one has none. -/
theorem L_of_ne (g : GSem nD τ sig) (h : g.1.2 ≠ .tc) : L g = ∅ := if_neg h
/-- A cell of a device's main thread has one. -/
theorem L_tc (c : Dev nD) (sm : SemLoc sig) : L ((c : Thread nD τ), sm) = {()} := if_pos rfl

/-- Everything owed in `O` is owed to cells of the devices' cores at levels above `n`. -/
def Above (n : ℕ) (O : CellTallies nD τ sig Unit) : Prop := ∀ (g : GSem nD τ sig) (u : Unit), 0 < O g u → g.1.2 = .tc ∧ n < lv g u

/-- Two tallies above a level add up to one above it. -/
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
/-- A tally at one cell is above every level below the cell's. -/
theorem Above.tally {n : ℕ} (g : GSem nD τ sig) (N : ℕ) (hg : g.1.2 = .tc) (hn : n < lv g ()) : Above n (tallyAt g () N) := fun g' u hp => by
  rw [tallyAt_apply] at hp
  split at hp
  · rename_i h; rw [h.1]; exact ⟨hg, hn⟩
  · omega
/-- The empty tally is above every level. -/
theorem Above.zero {n : ℕ} : Above n 0 := fun g u hp => absurd hp (Nat.lt_irrefl 0)
/-- A sum of tallies above a level is above it. -/
theorem Above.sum {n : ℕ} {ι : Type} (S : Finset ι) (f : ι → CellTallies nD τ sig Unit) (h : ∀ i ∈ S, Above n (f i)) : Above n (∑ i ∈ S, f i) := by
  classical
  induction S using Finset.induction_on with
  | empty => rw [Finset.sum_empty]; exact Above.zero
  | insert i S hi ih =>
    rw [Finset.sum_insert hi]
    exact (h i (Finset.mem_insert_self _ _)).add (ih fun j hj => h j (Finset.mem_insert_of_mem hj))

/-- The level of a DMA cell: two and three for the arrivals across the two axes, zero for the others. -/
theorem lv_dma (c : Dev nD) (a : Fin 9) (k : Fin 8) : lv (dcell c a k) () = if a = 6 then 2 else if a = 8 then 3 else 0 := by
  dsimp only [lv]; rw [arrOf_semAt]
/-- The barrier's level is one. -/
theorem lv_bar (c : Dev nD) : lv (rcell c true) () = 1 := by dsimp only [lv]; exact if_pos rfl
/-- The exit's level is four. -/
theorem lv_exit (c : Dev nD) : lv (rcell c false) () = 4 := by dsimp only [lv]; exact if_neg (by decide)

/-- What is owed to the exits is above level three. -/
theorem above_exit (c : Dev nD) : Above 3 (owedReg false c) :=
  (Above.tally _ _ rfl (by rw [lv_exit]; decide)).add (Above.tally _ _ rfl (by rw [lv_exit]; decide))
/-- What is owed to the barriers is above level zero. -/
theorem above_bar (c : Dev nD) : Above 0 (owedReg true c) :=
  (Above.tally _ _ rfl (by rw [lv_bar]; decide)).add (Above.tally _ _ rfl (by rw [lv_bar]; decide))
/-- What is owed across the first axis is above level one. -/
theorem above_X (c : Dev nD) (n : ℕ) : Above 1 (owedX c n) := Above.sum _ _ fun k _ => Above.tally _ _ rfl (by rw [lv_dma]; decide)
/-- What is owed across the second axis is above level two. -/
theorem above_Y (c : Dev nD) (n : ℕ) : Above 2 (owedY c n) := Above.sum _ _ fun k _ => Above.tally _ _ rfl (by rw [lv_dma]; decide)
/-- What is above a level is above every lower one. -/
theorem Above.mono {n n' : ℕ} {O : CellTallies nD τ sig Unit} (h : Above n O) (hn : n' ≤ n) : Above n' O :=
  fun g u hp => ⟨(h g u hp).1, lt_of_le_of_lt hn (h g u hp).2⟩

/-- A device may wait on a cell of its own while all it owes lies above the cell's level. -/
theorem mayWait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.KernelIdeal.Exchange

end
-- ==== Proof.Rules.lean ====
/- One rule per operation of the body: what the operation takes from the chunk's resources and what it gives back. -/
module

public import proofs.«01_k».proof.Proof.Protocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the body needs a variant. -/
abbrev 𝒱₀ : Variants := Variants.none

/-- The program `P` runs on device `c`'s core and ends in `Q`. -/
abbrev WP (c : Dev nD) (P : BProg F) (Q : PUnit.{1} → sProp 𝕄) : sProp 𝕄 :=
  wp frame (wpE (defs₀ (F := F)) 𝒱₀ (c : Thread nD τ) none) Set.univ P Q

/-! ## The shared facts and a device's tokens -/

/-- What every device knows: each cell's invariant, that each cell is at its round, and the levels. -/
def known (K : Dev nD × CI → ℕ) : sProp 𝕄 :=
  iprop((bigSep Finset.univ fun p : Dev nD × CI => cellInv ER (sched m) (K p) (kcell p))
    ∗ (bigSep Finset.univ fun p : Dev nD × CI => reached ER (kcell p) 0) ∗ levAts L lv)

/-- The shared facts can be kept and used again. -/
instance known_persistent (K : Dev nD × CI → ℕ) : BI.Persistent (known (F := F) m K) := by unfold known; infer_instance

section Known
variable (K : Dev nD × CI → ℕ)
/-- They give every cell's invariant, -/
theorem known_inv (p : Dev nD × CI) : known m K ⊢ cellInv ER (sched m) (K p) (kcell p) := by
  unfold known; exact sep_elim_left.trans (bigSep_elim (Finset.mem_univ p))
/-- that every cell has reached its round, -/
theorem known_reached (p : Dev nD × CI) : known m K ⊢ reached ER (kcell p) 0 := by
  unfold known; exact sep_elim_right.trans (sep_elim_left.trans (bigSep_elim (Finset.mem_univ p)))
/-- and every cell's level. -/
theorem known_lev : known m K ⊢ levAts L lv := by unfold known; iintro ⟨-, -, H⟩; iexact H
end Known

/-- The token to pay a DMA cell's duty. -/
abbrev tok (c : Dev nD) (a : Fin 9) (k : Fin 8) : sProp 𝕄 := dutyTok ER (dcell c a k) 0 false
/-- Device `c` has yet to wait for the transfer that array `a` counts for chunk `k`. -/
abbrev pos (c : Dev nD) (a : Fin 9) (k : Fin 8) : sProp 𝕄 := atPos ER (dcell c a k) 0 ∅ 0
/-- Device `c` has waited for it. -/
abbrev past (c : Dev nD) (a : Fin 9) (k : Fin 8) : sProp 𝕄 := atPos ER (dcell c a k) (0 + 1) ∅ 0
/-- The credit device `c` may wait with for it. -/
abbrev crd (c : Dev nD) (a : Fin 9) (k : Fin 8) : sProp 𝕄 := cred (tallyAt (dcell c a k) () (credit a))
/-- What a device owes, its record of waits aside. -/
def owing (c : Dev nD) (O : CellTallies nD τ sig Unit) : sProp 𝕄 := iprop(∃ W, owes (c : Thread nD τ) O W)
/-- Some share of the device's input, at its launch contents. -/
def input (c : Dev nD) : sProp 𝕄 := iprop(∃ q, ((c : Thread nD τ).loc main_arg0) ↦{q} xin m c)

/-! ## The rules -/

section Rules
variable (K : Dev nD × CI → ℕ) (c : Dev nD) (k : Fin 8) (P : BProg F)

/-- A wait on a DMA cell of the device: the transfer's payload. -/
theorem await_rule (Q : PUnit.{1} → sProp 𝕄) {sp sp' : Space} {e : EltTy} (s : Memref sig .tc sp S256x1024 e) (hs : s.view.WordExact) (d : Memref sig .tc sp' S256x1024 e) (hd : d.view.WordExact)
    (a : Fin 9) (O : CellTallies nD τ sig Unit) (hN : d.view.dmaCredit = credit a) (hO : Above (lv (dcell c a k) ()) O) :
    iprop(known m K ∗ owing c O ∗ pos c a k ∗ crd c a k ∗ (owing c O ∗ past c a k ∗ dmaPay m c a k -∗ WP c P Q)) ⊢ WP c (await s hs d hd a k P) Q := by
  unfold owing await
  iintro ⟨#Hk, ⟨%W, HO⟩, Hp, Hc, HP⟩
  iapply (Rounds.wp_wait_rest_token 𝒱₀ ER (sched m) (c : Thread nD τ) none (κ := K (c, .inl (a, k)))
      (wpE_waitDma2_eq 𝒱₀ (c : Thread nD τ) none Set.univ) (Set.mem_univ _) () (O := O) (W := W) (R := 0) (m := 0) (T := ∅)
      (by rw [Nat.zero_add, expect_dma, hN])) $$ [Hc HO Hp]
  · isplitr; · iapply (known_inv m K (c, .inl (a, k))); iexact Hk
    isplitl [Hc]; · rw [hN]; iexact Hc
    isplitl [HO]; · iexact HO
    isplitr; · iapply (mayWait c _ O hO); iapply (known_lev m K); iexact Hk
    iexact Hp
  iintro ⟨HO, Hp, -, Hpay⟩
  ihave Hpay := (Entails.of_eq (rest_dma m c a k)) $$ Hpay
  iapply HP
  isplitl [HO]; · iexists _; iexact HO
  isplitl [Hp]; · iexact Hp
  iexact Hpay

/-- Reading a slot: some vector that is the slot's contents. -/
theorem readSlot_rule (Q : PUnit.{1} → sProp 𝕄) {e : EltTy} (M : Memref sig .tc .vmem S8x256x1024 e) (q : PosShare TreeShare) (X : S256x1024.Idx → Elt F e) (P : Vec F S1x256x1024 e → BProg F) :
    iprop(owns (c : Thread nD τ) (slot M k) q X ∗ (∀ v, ⌜shapeCast S256x1024 v shapeCasts_S1x256x1024_S256x1024 = X⌝ -∗ owns (c : Thread nD τ) (slot M k) q X -∗ WP c (P v) Q))
      ⊢ WP c (readSlot M k P) Q := by
  unfold readSlot owns
  iintro ⟨⟨%f, %hf, H⟩, HP⟩
  iapply (wp_load 𝒱₀ (c : Thread nD τ) none Set.univ (m := M) (S := (slot M k).view.set)
    (by rw [Memref.set_view_squeeze]; exact (View.set_slice _ _).ge)) $$ H
  iintro H
  iapply HP $$ []
  · ipureintro; exact hf
  iexists f; isplitr; · ipureintro; exact hf
  iexact H

/-- Filling a slot. -/
theorem fillSlot_rule (Q : PUnit.{1} → sProp 𝕄) (M : Memref sig .tc .vmem S8x256x1024 .bf16) (hM : M.IsWhole) (w : Vec F S1x256x1024 .bf16) :
    iprop(ownsAny (c : Thread nD τ) (slot M k) ∗ (owns (c : Thread nD τ) (slot M k) fullShare (shapeCast S256x1024 w shapeCasts_S1x256x1024_S256x1024) -∗ WP c P Q))
      ⊢ WP c (fillSlot M hM k w P) Q := by
  unfold fillSlot ownsAny owns
  iintro ⟨⟨%X, %f, -, H⟩, HP⟩
  iapply (wp_store 𝒱₀ (c : Thread nD τ) none Set.univ (m := M) (r := slotR k) (Mk := Finset.univ) (S := (slot M k).view.set)
    (by rw [Memref.set_view_squeeze]; exact Finset.Subset.refl _)) $$ H
  iintro H
  iapply HP
  iexists _
  isplitr
  rotate_left
  · iexact H
  ipureintro
  show shapeCast S256x1024 ((M.access (slotR k)).read (Elt F) ((M.access (slotR k)).write (Elt F) f w Finset.univ)) _ = _
  rw [View.read_write_univ]

/-- Any share of the input gives some share of the elements a view of it covers. -/
theorem input_view (o : Fin 3 → ℕ) (ho : ∀ i, o i + S1x256x1024.size i ≤ S1x4096x2048.size i) :
    input m c ⊢ iprop(input m c ∗ ∃ q,
      ((xM.slice (Rect.unit (s := S1x4096x2048) o S1x256x1024.size ho) (fun _ => rfl)).squeeze S256x1024 squeezes_S1x256x1024_S256x1024).view.loc (c : Thread nD τ)
        ↦[((xM.slice (Rect.unit (s := S1x4096x2048) o S1x256x1024.size ho) (fun _ => rfl)).squeeze S256x1024 squeezes_S1x256x1024_S256x1024).view.set]{q} xin m c) := by
  unfold input
  iintro ⟨%q, Hx⟩
  ihave Hx := (pointsTo_share (PosShare.mem_left_op_right q)).1 $$ Hx
  icases Hx with ⟨Hx1, Hx2⟩
  isplitl [Hx2]; · iexists q.right; iexact Hx2
  iexists q.left
  ihave Hx1 := (pointsTo_split_subset (Finset.subset_univ _)).1 $$ Hx1
  icases Hx1 with ⟨Hx1, -⟩
  iexact Hx1

/-- Starting to fetch a part of the input into a slot. -/
theorem fetch_rule (Q : PUnit.{1} → sProp 𝕄) (s : Memref sig .tc .hbm S256x1024 .f32) (hs : s.view.WordExact) (fs : Buf (Elt F) (s.view.loc (c : Thread nD τ)))
    (M : Memref sig .tc .vmem S8x256x1024 .f32) (a : Fin 9) (hN : (slot M k).view.dmaCredit = credit a)
    (hx : input m c ⊢ iprop(input m c ∗ ∃ q, s.view.loc (c : Thread nD τ) ↦[s.view.set]{q} fs))
    (hpay : owns (c : Thread nD τ) (slot M k) fullShare (s.view.read (Elt F) fs) ⊢ dmaPay m c a k) :
    iprop(known m K ∗ input m c ∗ tok c a k ∗ ownsAny (c : Thread nD τ) (slot M k) ∗ (input m c ∗ crd c a k -∗ WP c P Q))
      ⊢ WP c (fetch s hs M a k P) Q := by
  unfold fetch
  iintro ⟨#Hk, Hx, Ht, HM, HP⟩
  ihave Hx := hx $$ Hx
  icases Hx with ⟨Hx2, %q, Hx1⟩
  ihave HM := (show ownsAny (c : Thread nD τ) (slot M k) ⊢ (iprop(∃ Y f, ⌜(slot M k).view.read (Elt F) f = Y⌝ ∗ ((slot M k).view.loc (c : Thread nD τ) ↦[(slot M k).view.set]{fullShare} f)) : sProp 𝕄) from .rfl) $$ HM
  icases HM with ⟨%Y, %f, -, HM⟩
  iapply (Rounds.wp_copy_pointsTo 𝒱₀ ER (sched m) (c : Thread nD τ) none (κ := K (c, .inl (a, k))) (r := 0) (d := false) (fs := fs) (fd := f) (q := q)
    (by rw [duties_dma]; exact Finset.mem_singleton_self _) () (credit a) (show (slot M k).view.amount (.dma (semAt (arrs a) k)) = credit a from hN) (amount_dma m c a k false)
    (by
      rw [payload_dma]
      refine BI.Laws.entails_trans ?_ hpay
      iintro ⟨H, -⟩
      unfold owns
      iexists _
      isplitr
      rotate_left
      · iexact H
      ipureintro
      exact View.read_write_univ _ _)) $$ [Hx1 HM Ht]
  · isplitr; · iapply (known_inv m K (c, .inl (a, k))); iexact Hk
    isplitl [Hx1]; · iexact Hx1
    isplitl [HM]; · iexact HM
    isplitl [Ht]; · iexact Ht
    iapply (known_reached m K (c, .inl (a, k))); iexact Hk
  iintro Hc
  iapply HP
  isplitl [Hx2]; · iexact Hx2
  iexact Hc

/-- Starting to copy a slot into the result. -/
theorem putOut_rule (Q : PUnit.{1} → sProp 𝕄) (M : Memref sig .tc .vmem S8x256x1024 .bf16) (hM : M.IsWhole) (d : Memref sig .tc .hbm S256x1024 .bf16) (hd : d.view.WordExact) (a : Fin 9)
    (X : S256x1024.Idx → Elt F .bf16) (hN : d.view.dmaCredit = credit a)
    (hpay : iprop(owns (c : Thread nD τ) d fullShare X ∗ ownsAny (c : Thread nD τ) (slot M k)) ⊢ dmaPay m c a k) :
    iprop(known m K ∗ owns (c : Thread nD τ) (slot M k) fullShare X ∗ tok c a k ∗ ownsAny (c : Thread nD τ) d ∗ (crd c a k -∗ WP c P Q))
      ⊢ WP c (putOut M hM d hd a k P) Q := by
  unfold putOut
  iintro ⟨#Hk, HM, Ht, Hd, HP⟩
  ihave HM := (show owns (c : Thread nD τ) (slot M k) fullShare X ⊢ (iprop(∃ f, ⌜(slot M k).view.read (Elt F) f = X⌝ ∗ ((slot M k).view.loc (c : Thread nD τ) ↦[(slot M k).view.set]{fullShare} f)) : sProp 𝕄) from .rfl) $$ HM
  icases HM with ⟨%fs, %hfs, HM⟩
  ihave Hd := (show ownsAny (c : Thread nD τ) d ⊢ (iprop(∃ Y f, ⌜d.view.read (Elt F) f = Y⌝ ∗ (d.view.loc (c : Thread nD τ) ↦[d.view.set]{fullShare} f)) : sProp 𝕄) from .rfl) $$ Hd
  icases Hd with ⟨%Y, %fd, -, Hd⟩
  iapply (Rounds.wp_copy_pointsTo 𝒱₀ ER (sched m) (c : Thread nD τ) none (κ := K (c, .inl (a, k))) (r := 0) (d := false) (fs := fs) (fd := fd) (q := fullShare)
    (by rw [duties_dma]; exact Finset.mem_singleton_self _) () (credit a) (show d.view.amount (.dma (semAt (arrs a) k)) = credit a from hN) (amount_dma m c a k false)
    (by
      rw [payload_dma]
      refine BI.Laws.entails_trans ?_ hpay
      unfold ownsAny owns
      iintro ⟨H, HM⟩
      isplitl [H]
      · iexists _
        isplitr
        rotate_left
        · iexact H
        ipureintro
        rw [View.read_write_univ]; exact hfs
      · iexists ((slot M k).view.read (Elt F) fs), fs
        isplitr
        rotate_left
        · iexact HM
        ipureintro; rfl)) $$ [HM Hd Ht]
  · isplitr; · iapply (known_inv m K (c, .inl (a, k))); iexact Hk
    isplitl [HM]; · iexact HM
    isplitl [Hd]; · iexact Hd
    isplitl [Ht]; · iexact Ht
    iapply (known_reached m K (c, .inl (a, k))); iexact Hk
  iintro Hc
  iapply HP
  iexact Hc

/-- Starting to send a slot to a neighbour's slot. -/
theorem send_rule (Q : PUnit.{1} → sProp 𝕄) (n : Dev nD) (M : Memref sig .tc .vmem S8x256x1024 .bf16) (hM : M.IsWhole) (M' : Memref sig .tc .vmem S8x256x1024 .bf16) (hM' : M'.IsWhole)
    (hsc : M'.view.ref.isScScratch = false) (a b : Fin 9) (q : PosShare TreeShare) (X : S256x1024.Idx → Elt F .bf16) (O₀ O : CellTallies nD τ sig Unit)
    (hO : O₀ = O + tallyAt (dcell n b k) () (credit b)) (hN : (slot M' k).view.dmaCredit = credit b) (hab : credit a = credit b)
    (hpay₁ : owns (c : Thread nD τ) (slot M k) q X ⊢ dmaPay m c a k) (hpay₂ : owns (n : Thread nD τ) (slot M' k) fullShare X ⊢ dmaPay m n b k) :
    iprop(known m K ∗ owing c O₀ ∗ owns (c : Thread nD τ) (slot M k) q X ∗ tok c a k ∗ tok n b k ∗ ownsAny (n : Thread nD τ) (slot M' k)
        ∗ (owing c O ∗ crd c a k -∗ WP c P Q))
      ⊢ WP c (send n M hM M' hM' hsc a b k P) Q := by
  unfold send owing
  iintro ⟨#Hk, ⟨%W, HO⟩, HM, Ha, Hb, Hd, HP⟩
  ihave HM := (show owns (c : Thread nD τ) (slot M k) q X ⊢ (iprop(∃ f, ⌜(slot M k).view.read (Elt F) f = X⌝ ∗ ((slot M k).view.loc (c : Thread nD τ) ↦[(slot M k).view.set]{q} f)) : sProp 𝕄) from .rfl) $$ HM
  icases HM with ⟨%fs, %hfs, HM⟩
  ihave Hd := (show ownsAny (n : Thread nD τ) (slot M' k) ⊢ (iprop(∃ Y f, ⌜(slot M' k).view.read (Elt F) f = Y⌝ ∗ ((slot M' k).view.loc (n : Thread nD τ) ↦[(slot M' k).view.set]{fullShare} f)) : sProp 𝕄) from .rfl) $$ Hd
  icases Hd with ⟨%Y, %fd, -, Hd⟩
  iapply (Rounds.wp_send_pointsTo 𝒱₀ ER (sched m) (c : Thread nD τ) none (c' := (n : Thread nD τ)) (κ₁ := K (c, .inl (a, k))) (κ₂ := K (n, .inl (b, k)))
    (r₁ := 0) (r₂ := 0) (d₁ := false) (d₂ := false) (fs := fs) (fd := fd) (q := q)
    (by rw [duties_dma]; exact Finset.mem_singleton_self _) (by rw [duties_dma]; exact Finset.mem_singleton_self _)
    () () (credit b) (show (slot M' k).view.amount (.dma (semAt (arrs b) k)) = credit b from hN) ((amount_dma m c a k false).trans hab) (amount_dma m n b k false) O hO (W := W)
    (by
      rw [payload_dma]
      refine BI.Laws.entails_trans ?_ hpay₁
      unfold owns
      iintro H; iexists fs; isplitr; · ipureintro; exact hfs
      iexact H)
    (by
      rw [payload_dma]
      refine BI.Laws.entails_trans ?_ hpay₂
      unfold owns
      iintro H
      iexists _
      isplitr
      rotate_left
      · iexact H
      ipureintro
      rw [View.read_write_univ]; exact hfs)) $$ [HM Hd HO Ha Hb]
  · isplitr; · iapply (known_inv m K (c, .inl (a, k))); iexact Hk
    isplitr; · iapply (known_inv m K (n, .inl (b, k))); iexact Hk
    isplitl [HM]; · iexact HM
    isplitl [Hd]; · iexact Hd
    isplitl [HO]; · iexact HO
    isplitl [Ha]; · iexact Ha
    isplitr; · iapply (known_reached m K (c, .inl (a, k))); iexact Hk
    isplitl [Hb]; · iexact Hb
    iapply (known_reached m K (n, .inl (b, k))); iexact Hk
  iintro ⟨Hc, HO⟩
  iapply HP
  isplitl [HO]; · iexists W; iexact HO
  iapply (Entails.of_eq (congrArg (fun N => (cred (tallyAt (dcell c a k) () N) : sProp 𝕄)) hab.symm)); iexact Hc

/-- Meeting both neighbours on the barrier (`b = true`) or the exit semaphore: each side's payload changes hands. -/
theorem meet_rule (Q : PUnit.{1} → sProp 𝕄) (b : Bool) (O : CellTallies nD τ sig Unit) (hO : Above (lv (rcell c b) ()) O) :
    iprop(known m K ∗ owing c (O + owedReg b c) ∗ dutyTok ER (rcell (xdev c) b) 0 true ∗ dutyTok ER (rcell (ydev c) b) 0 false
        ∗ (sched m).payload (rcell (xdev c) b) 0 true ∗ (sched m).payload (rcell (ydev c) b) 0 false
        ∗ cred (tallyAt (rcell c b) () 2) ∗ atPos ER (rcell c b) 0 ∅ 0
        ∗ (owing c O ∗ atPos ER (rcell c b) (0 + 1) ∅ 0 ∗ bigSep ((sched (F := F) m).duties (rcell c b) 0 \ ∅) (fun d => (sched (F := F) m).payload (rcell c b) 0 d) -∗ WP c P Q))
      ⊢ WP c (meet c (regS b) P) Q := by
  unfold meet owing owedReg
  iintro ⟨#Hk, ⟨%W, HO⟩, Hx, Hy, Px, Py, Hc, Hp, HP⟩
  iapply (Rounds.wp_signal 𝒱₀ ER (sched m) (c : Thread nD τ) none (dst := (xdev c : Thread nD τ)) (κ := K (xdev c, .inr b)) (r := 0)
      (d := true) (by rw [duties_reg]; exact Finset.mem_univ _) ((amount_reg m (xdev c) b true).trans (by decide)) () (O + tallyAt (rcell (ydev c) b) () 1) (add_assoc _ _ _).symm)
    $$ [HO Hx Px]
  · isplitr; · iapply (known_inv m K (xdev c, .inr b)); iexact Hk
    isplitl [HO]; · iexact HO
    isplitl [Hx]; · iexact Hx
    isplitl [Px]; · iexact Px
    iapply (known_reached m K (xdev c, .inr b)); iexact Hk
  iintro HO
  iapply (Rounds.wp_signal 𝒱₀ ER (sched m) (c : Thread nD τ) none (dst := (ydev c : Thread nD τ)) (κ := K (ydev c, .inr b)) (r := 0)
      (d := false) (by rw [duties_reg]; exact Finset.mem_univ _) ((amount_reg m (ydev c) b false).trans (by decide)) () O rfl)
    $$ [HO Hy Py]
  · isplitr; · iapply (known_inv m K (ydev c, .inr b)); iexact Hk
    isplitl [HO]; · iexact HO
    isplitl [Hy]; · iexact Hy
    isplitl [Py]; · iexact Py
    iapply (known_reached m K (ydev c, .inr b)); iexact Hk
  iintro HO
  iapply (Rounds.wp_wait_rest_token 𝒱₀ ER (sched m) (c : Thread nD τ) none (κ := K (c, .inr b))
      (wpE_semWait_eq 𝒱₀ (c : Thread nD τ) none Set.univ) (Set.mem_univ _) () (O := O) (W := W) (R := 0) (m := 0) (T := ∅)
      (by rw [expect_reg]; decide)) $$ [Hc HO Hp]
  · isplitr; · iapply (known_inv m K (c, .inr b)); iexact Hk
    isplitl [Hc]; · iexact Hc
    isplitl [HO]; · iexact HO
    isplitr; · iapply (mayWait c _ O hO); iapply (known_lev m K); iexact Hk
    iexact Hp
  iintro ⟨HO, Hp, -, Hpay⟩
  iapply HP
  isplitl [HO]; · iexists _; iexact HO
  isplitl [Hp]; · iexact Hp
  iexact Hpay

end Rules

end Cert.KernelIdeal.Exchange

end
-- ==== Proof.Phases.lean ====
/- The phases of the body: for each phase, what its step takes of a chunk and gives back for a chunk, and the rule that runs
   a step for all eight chunks. -/
module

public import proofs.«01_k».proof.Proof.Rules
public import Idealize.ShloMosaic.Lib.MemrefSat
public import Idealize.ShloMosaic.Lib.Pipeline.Value

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A memref owned at some contents is owned at any. -/
theorem ownsAny_intro (c : Thread nD τ) {sp : Space} {sh : Shape} {e : EltTy} (M : Memref sig c.2.kind sp sh e) (X : sh.Idx → Elt F e) :
    (owns c M fullShare X : sProp 𝕄) ⊢ ownsAny c M := by
  unfold ownsAny; iintro H; iexists X; iexact H

/-- What the kernel stores is the rounded chunk, or the rounded sum. -/
theorem roundPay_eq (v : Vec F S1x256x1024 .f32) (X : FVec F S256x1024 .f32) (h : shapeCast S256x1024 v shapeCasts_S1x256x1024_S256x1024 = X) :
    shapeCast S256x1024 (roundPay v) shapeCasts_S1x256x1024_S256x1024 = rnd X := by
  subst h; exact shapeCast_shapeCast _ _ _
/-- The sum the kernel computes from two slots that hold `X` and `W` is the sum of the chunks. -/
theorem addPay_eq (v : Vec F S1x256x1024 .f32) (w : Vec F S1x256x1024 .bf16) (X : FVec F S256x1024 .f32) (W : FVec F S256x1024 .bf16)
    (h : shapeCast S256x1024 v shapeCasts_S1x256x1024_S256x1024 = X) (h' : shapeCast S256x1024 w shapeCasts_S1x256x1024_S256x1024 = W) :
    shapeCast S256x1024 (addPay v w) shapeCasts_S1x256x1024_S256x1024 = addRnd X W := by
  subst h; subst h'; exact shapeCast_shapeCast _ _ _

/-! ## What each phase holds of a chunk -/

section Res
variable (c : Dev nD) (k : Fin 8)

/-- What a fetch through array `a` needs of chunk `k`. -/
def fetchIn (M : Memref sig .tc .vmem S8x256x1024 .f32) (a : Fin 9) : sProp 𝕄 := iprop(tok c a k ∗ ownsAny (c : Thread nD τ) (slot M k))
/-- What phase 1 of a chunk, the send, needs besides the fetched part and the neighbour's slot. -/
def sendIn : sProp 𝕄 := iprop(pos c 0 k ∗ ownsAny (c : Thread nD τ) (slot xsM k) ∗ tok c 5 k ∗ tok (xdev c) 6 k)
/-- What phase 1 of a chunk leaves. -/
def sendOut : sProp 𝕄 := iprop(past c 0 k ∗ ownsAny (c : Thread nD τ) (slot fsM k))
/-- What phase 2 of a chunk, which handles the own half of the rows, needs. -/
def ownIn : sProp 𝕄 := iprop(pos c 6 k ∗ crd c 6 k ∗ tok c 7 k ∗ tok (ydev c) 8 k ∗ pos c 1 k ∗ ownsAny (c : Thread nD τ) (slot oaM k) ∗ tok c 3 k ∗ ownsAny (c : Thread nD τ) (dstA c k))
/-- What phase 2 of a chunk leaves. -/
def ownOut : sProp 𝕄 := iprop(past c 6 k ∗ past c 1 k ∗ ownsAny (c : Thread nD τ) (slot faM k))
/-- What phase 3 of a chunk, which handles the other half, needs. -/
def otherIn : sProp 𝕄 := iprop(pos c 8 k ∗ crd c 8 k ∗ pos c 2 k ∗ ownsAny (c : Thread nD τ) (slot obM k) ∗ tok c 4 k ∗ ownsAny (c : Thread nD τ) (dstB c k))
/-- What phase 3 of a chunk leaves. -/
def otherOut : sProp 𝕄 := iprop(past c 8 k ∗ past c 2 k ∗ ownsAny (c : Thread nD τ) (slot fbM k) ∗ ownsAny (c : Thread nD τ) (slot yrM k))
/-- What the drain of a chunk needs. -/
def drainIn : sProp 𝕄 := iprop(pos c 5 k ∗ pos c 7 k ∗ pos c 3 k ∗ pos c 4 k)
/-- What the drain of a chunk leaves. -/
def drainOut : sProp 𝕄 := iprop(past c 5 k ∗ past c 7 k ∗ past c 3 k ∗ past c 4 k
  ∗ ownsAny (c : Thread nD τ) (slot xsM k) ∗ ownsAny (c : Thread nD τ) (slot xrM k) ∗ ownsAny (c : Thread nD τ) (slot oaM k) ∗ ownsAny (c : Thread nD τ) (slot obM k)
  ∗ owns (c : Thread nD τ) (dstA c k) fullShare (outA m c k) ∗ owns (c : Thread nD τ) (dstB c k) fullShare (outB m c k))
/-- The received slot's kept half. -/
def keptHalf : sProp 𝕄 := owns (c : Thread nD τ) (slot xrM k) keptShare (gotX m c k)

end Res

/-! ## One step per phase -/

section Phases
variable (K : Dev nD × CI → ℕ) (c : Dev nD) (k : Fin 8) (P : BProg F)

/-- The send phase of a chunk. -/
theorem send_step (Q : PUnit.{1} → sProp 𝕄) :
    iprop(known m K ∗ (sendIn c k ∗ crd c 0 k ∗ ownsAny (xdev c : Thread nD τ) (slot xrM k)) ∗ owing c (owedReg false c + owedY c 0 + owedX c k.val)
        ∗ ((sendOut c k ∗ crd c 5 k) ∗ owing c (owedReg false c + owedY c 0 + owedX c (k.val + 1)) -∗ WP c P Q)) ⊢ WP c (sendStep c k P) Q := by
  unfold sendIn sendOut sendStep
  iintro ⟨#Hk, ⟨⟨Hp, Hs, Ht5, Ht6⟩, Hc, Hr⟩, HO, HP⟩
  iapply (await_rule m K c k _ Q (srcS c k) (srcS_exact c k) (slot fsM k) (slot_exact32 k) 0 (owedReg false c + owedY c 0 + owedX c k.val) rfl
    (by rw [lv_dma]; exact (((above_exit c).mono (by decide)).add ((above_Y c 0).mono (by decide))).add ((above_X c k.val).mono (by decide))))
  isplitr; · iexact Hk
  isplitl [HO]; · iexact HO
  isplitl [Hp]; · iexact Hp
  isplitl [Hc]; · iexact Hc
  unfold dmaPay
  iintro ⟨HO, Hp, Hf⟩
  iapply (readSlot_rule c k Q fsM fullShare (partS m c k))
  isplitl [Hf]; · iexact Hf
  iintro %v %hv Hf
  ihave Hs := (show ownsAny (c : Thread nD τ) (slot xsM k) ⊢ (iprop(∃ X, owns (c : Thread nD τ) (slot xsM k) fullShare X) : sProp 𝕄) from .rfl) $$ Hs
  icases Hs with ⟨%Y, Hs⟩
  iapply (readSlot_rule c k Q xsM fullShare Y)
  isplitl [Hs]; · iexact Hs
  iintro %v' - Hs
  iapply (fillSlot_rule c k _ Q xsM (Memref.isWhole_whole _) (roundPay v))
  isplitl [Hs]; · iapply (ownsAny_intro (c : Thread nD τ) (slot xsM k) Y); iexact Hs
  rw [roundPay_eq v _ hv]
  iintro Hs
  iapply (send_rule m K c k P Q (xdev c) xsM (Memref.isWhole_whole _) xrM (Memref.isWhole_whole _) rfl 5 6 fullShare (sent m c k)
    (owedReg false c + owedY c 0 + owedX c k.val) (owedReg false c + owedY c 0 + owedX c (k.val + 1)) (by rw [owedX_step, ← add_assoc]) rfl rfl
    (ownsAny_intro (c : Thread nD τ) (slot xsM k) _) (by unfold dmaPay gotX; rw [xdev_xdev]))
  isplitr; · iexact Hk
  isplitl [HO]; · iexact HO
  isplitl [Hs]; · iexact Hs
  isplitl [Ht5]; · iexact Ht5
  isplitl [Ht6]; · iexact Ht6
  isplitl [Hr]; · iexact Hr
  iintro ⟨HO, Hc⟩
  iapply HP
  isplitr [HO]
  · isplitr [Hc]
    · isplitl [Hp]; · iexact Hp
      iapply (ownsAny_intro (c : Thread nD τ) (slot fsM k) _); iexact Hf
    · iexact Hc
  · iexact HO

/-- The phase of a chunk in the own half of the rows. -/
theorem own_step (Q : PUnit.{1} → sProp 𝕄) :
    iprop(known m K ∗ (ownIn c k ∗ crd c 1 k ∗ ownsAny (ydev c : Thread nD τ) (slot yrM k)) ∗ owing c (owedReg false c + owedY c k.val)
        ∗ ((ownOut c k ∗ crd c 7 k ∗ crd c 3 k ∗ keptHalf m c k) ∗ owing c (owedReg false c + owedY c (k.val + 1)) -∗ WP c P Q)) ⊢ WP c (ownStep c k P) Q := by
  unfold ownIn ownOut keptHalf ownStep
  iintro ⟨#Hk, ⟨⟨Hp6, Hc6, Ht7, Ht8, Hp1, Ho, Ht3, Hd⟩, Hc1, Hr⟩, HO, HP⟩
  iapply (await_rule m K c k _ Q (slot xsM k) (slot_exact (Memref.isWhole_whole _) k) (slot xrM k) (slot_exact (Memref.isWhole_whole _) k) 6 (owedReg false c + owedY c k.val) rfl
    (by rw [lv_dma]; exact ((above_exit c).mono (by decide)).add ((above_Y c k.val).mono (by decide))))
  isplitr; · iexact Hk
  isplitl [HO]; · iexact HO
  isplitl [Hp6]; · iexact Hp6
  isplitl [Hc6]; · iexact Hc6
  iintro ⟨HO, Hp6, Hx⟩
  ihave Hx := (show dmaPay m c 6 k ⊢ owns (c : Thread nD τ) (slot xrM k) fullShare (gotX m c k) from .rfl) $$ Hx
  ihave Hx := (owns_halves (c : Thread nD τ) (slot xrM k) fullShare (gotX m c k)).1 $$ Hx
  icases Hx with ⟨Hx, Hl⟩
  iapply (send_rule m K c k _ Q (ydev c) xrM (Memref.isWhole_whole _) yrM (Memref.isWhole_whole _) rfl 7 8 lentShare (gotX m c k)
    (owedReg false c + owedY c k.val) (owedReg false c + owedY c (k.val + 1)) (by rw [owedY_step, add_assoc]) rfl rfl
    (by unfold dmaPay; exact .rfl) (by unfold dmaPay gotY; rw [ydev_ydev]))
  isplitr; · iexact Hk
  isplitl [HO]; · iexact HO
  isplitl [Hl]; · iexact Hl
  isplitl [Ht7]; · iexact Ht7
  isplitl [Ht8]; · iexact Ht8
  isplitl [Hr]; · iexact Hr
  iintro ⟨HO, Hc7⟩
  iapply (await_rule m K c k _ Q (srcA c k) (srcA_exact c k) (slot faM k) (slot_exact32 k) 1 (owedReg false c + owedY c (k.val + 1)) rfl
    (by rw [lv_dma]; exact ((above_exit c).mono (by decide)).add ((above_Y c (k.val + 1)).mono (by decide))))
  isplitr; · iexact Hk
  isplitl [HO]; · iexact HO
  isplitl [Hp1]; · iexact Hp1
  isplitl [Hc1]; · iexact Hc1
  unfold dmaPay
  iintro ⟨HO, Hp1, Hf⟩
  iapply (readSlot_rule c k Q faM fullShare (partA m c k))
  isplitl [Hf]; · iexact Hf
  iintro %v %hv Hf
  iapply (readSlot_rule c k Q xrM keptShare (gotX m c k))
  isplitl [Hx]; · iexact Hx
  iintro %w %hw Hx
  ihave Ho := (show ownsAny (c : Thread nD τ) (slot oaM k) ⊢ (iprop(∃ X, owns (c : Thread nD τ) (slot oaM k) fullShare X) : sProp 𝕄) from .rfl) $$ Ho
  icases Ho with ⟨%Y, Ho⟩
  iapply (readSlot_rule c k Q oaM fullShare Y)
  isplitl [Ho]; · iexact Ho
  iintro %v' - Ho
  iapply (fillSlot_rule c k _ Q oaM (Memref.isWhole_whole _) (addPay v w))
  isplitl [Ho]; · iapply (ownsAny_intro (c : Thread nD τ) (slot oaM k) Y); iexact Ho
  rw [addPay_eq v w _ _ hv hw]
  iintro Ho
  iapply (putOut_rule m K c k P Q oaM (Memref.isWhole_whole _) (dstA c k) (dstA_exact c k) 3 (outA m c k) rfl .rfl)
  isplitr; · iexact Hk
  isplitl [Ho]; · iexact Ho
  isplitl [Ht3]; · iexact Ht3
  isplitl [Hd]; · iexact Hd
  iintro Hc3
  iapply HP
  isplitr [HO]
  · isplitl [Hp6 Hp1 Hf]
    · isplitl [Hp6]; · iexact Hp6
      isplitl [Hp1]; · iexact Hp1
      iapply (ownsAny_intro (c : Thread nD τ) (slot faM k) _); iexact Hf
    · isplitl [Hc7]; · iexact Hc7
      isplitl [Hc3]; · iexact Hc3
      iexact Hx
  · iexact HO

/-- The phase of a chunk in the other half. -/
theorem other_step (Q : PUnit.{1} → sProp 𝕄) :
    iprop(known m K ∗ (otherIn c k ∗ crd c 2 k) ∗ owing c (owedReg false c)
        ∗ ((otherOut c k ∗ crd c 4 k) ∗ owing c (owedReg false c) -∗ WP c P Q)) ⊢ WP c (otherStep c k P) Q := by
  unfold otherIn otherOut otherStep
  iintro ⟨#Hk, ⟨⟨Hp8, Hc8, Hp2, Ho, Ht4, Hd⟩, Hc2⟩, HO, HP⟩
  iapply (await_rule m K c k _ Q (slot xrM k) (slot_exact (Memref.isWhole_whole _) k) (slot yrM k) (slot_exact (Memref.isWhole_whole _) k) 8 (owedReg false c) rfl
    (by rw [lv_dma]; exact (above_exit c).mono (by decide)))
  isplitr; · iexact Hk
  isplitl [HO]; · iexact HO
  isplitl [Hp8]; · iexact Hp8
  isplitl [Hc8]; · iexact Hc8
  iintro ⟨HO, Hp8, Hy⟩
  ihave Hy := (show dmaPay m c 8 k ⊢ owns (c : Thread nD τ) (slot yrM k) fullShare (gotY m c k) from .rfl) $$ Hy
  iapply (await_rule m K c k _ Q (srcB c k) (srcB_exact c k) (slot fbM k) (slot_exact32 k) 2 (owedReg false c) rfl
    (by rw [lv_dma]; exact (above_exit c).mono (by decide)))
  isplitr; · iexact Hk
  isplitl [HO]; · iexact HO
  isplitl [Hp2]; · iexact Hp2
  isplitl [Hc2]; · iexact Hc2
  unfold dmaPay
  iintro ⟨HO, Hp2, Hf⟩
  iapply (readSlot_rule c k Q fbM fullShare (partB m c k))
  isplitl [Hf]; · iexact Hf
  iintro %v %hv Hf
  iapply (readSlot_rule c k Q yrM fullShare (gotY m c k))
  isplitl [Hy]; · iexact Hy
  iintro %w %hw Hy
  ihave Ho := (show ownsAny (c : Thread nD τ) (slot obM k) ⊢ (iprop(∃ X, owns (c : Thread nD τ) (slot obM k) fullShare X) : sProp 𝕄) from .rfl) $$ Ho
  icases Ho with ⟨%Y, Ho⟩
  iapply (readSlot_rule c k Q obM fullShare Y)
  isplitl [Ho]; · iexact Ho
  iintro %v' - Ho
  iapply (fillSlot_rule c k _ Q obM (Memref.isWhole_whole _) (addPay v w))
  isplitl [Ho]; · iapply (ownsAny_intro (c : Thread nD τ) (slot obM k) Y); iexact Ho
  rw [addPay_eq v w _ _ hv hw]
  iintro Ho
  iapply (putOut_rule m K c k P Q obM (Memref.isWhole_whole _) (dstB c k) (dstB_exact c k) 4 (outB m c k) rfl .rfl)
  isplitr; · iexact Hk
  isplitl [Ho]; · iexact Ho
  isplitl [Ht4]; · iexact Ht4
  isplitl [Hd]; · iexact Hd
  iintro Hc4
  iapply HP
  isplitr [HO]
  · isplitr [Hc4]
    · isplitl [Hp8]; · iexact Hp8
      isplitl [Hp2]; · iexact Hp2
      isplitl [Hf]; · iapply (ownsAny_intro (c : Thread nD τ) (slot fbM k) _); iexact Hf
      iapply (ownsAny_intro (c : Thread nD τ) (slot yrM k) _); iexact Hy
    · iexact Hc4
  · iexact HO

/-- The last phase of a chunk. -/
theorem drain_step (Q : PUnit.{1} → sProp 𝕄) :
    iprop(known m K ∗ (drainIn c k ∗ crd c 5 k ∗ (crd c 7 k ∗ crd c 3 k ∗ keptHalf m c k) ∗ crd c 4 k) ∗ owing c (owedReg false c)
        ∗ (drainOut m c k ∗ owing c (owedReg false c) -∗ WP c P Q)) ⊢ WP c (drainStep c k P) Q := by
  unfold drainIn drainOut keptHalf drainStep
  iintro ⟨#Hk, ⟨⟨Hp5, Hp7, Hp3, Hp4⟩, Hc5, ⟨Hc7, Hc3, Hx⟩, Hc4⟩, HO, HP⟩
  iapply (await_rule m K c k _ Q (slot xrM k) (slot_exact (Memref.isWhole_whole _) k) (slot xsM k) (slot_exact (Memref.isWhole_whole _) k) 5 (owedReg false c) rfl
    (by rw [lv_dma]; exact (above_exit c).mono (by decide)))
  isplitr; · iexact Hk
  isplitl [HO]; · iexact HO
  isplitl [Hp5]; · iexact Hp5
  isplitl [Hc5]; · iexact Hc5
  iintro ⟨HO, Hp5, Hxs⟩
  iapply (await_rule m K c k _ Q (slot yrM k) (slot_exact (Memref.isWhole_whole _) k) (slot xrM k) (slot_exact (Memref.isWhole_whole _) k) 7 (owedReg false c) rfl
    (by rw [lv_dma]; exact (above_exit c).mono (by decide)))
  isplitr; · iexact Hk
  isplitl [HO]; · iexact HO
  isplitl [Hp7]; · iexact Hp7
  isplitl [Hc7]; · iexact Hc7
  iintro ⟨HO, Hp7, Hl⟩
  iapply (await_rule m K c k _ Q (slot oaM k) (slot_exact (Memref.isWhole_whole _) k) (dstA c k) (dstA_exact c k) 3 (owedReg false c) rfl
    (by rw [lv_dma]; exact (above_exit c).mono (by decide)))
  isplitr; · iexact Hk
  isplitl [HO]; · iexact HO
  isplitl [Hp3]; · iexact Hp3
  isplitl [Hc3]; · iexact Hc3
  iintro ⟨HO, Hp3, Ha⟩
  iapply (await_rule m K c k _ Q (slot obM k) (slot_exact (Memref.isWhole_whole _) k) (dstB c k) (dstB_exact c k) 4 (owedReg false c) rfl
    (by rw [lv_dma]; exact (above_exit c).mono (by decide)))
  isplitr; · iexact Hk
  isplitl [HO]; · iexact HO
  isplitl [Hp4]; · iexact Hp4
  isplitl [Hc4]; · iexact Hc4
  iintro ⟨HO, Hp4, Hb⟩
  unfold dmaPay
  icases Ha with ⟨Hda, Ha⟩
  icases Hb with ⟨Hdb, Hb⟩
  iapply HP
  isplitr [HO]
  · isplitl [Hp5]; · iexact Hp5
    isplitl [Hp7]; · iexact Hp7
    isplitl [Hp3]; · iexact Hp3
    isplitl [Hp4]; · iexact Hp4
    isplitl [Hxs]; · iexact Hxs
    isplitl [Hx Hl]
    · iapply (ownsAny_intro (c : Thread nD τ) (slot xrM k) (gotX m c k))
      iapply (owns_halves (c : Thread nD τ) (slot xrM k) fullShare (gotX m c k)).2
      isplitl [Hx] <;> iassumption
    isplitl [Ha]; · iexact Ha
    isplitl [Hb]; · iexact Hb
    isplitl [Hda] <;> iassumption
  · iexact HO

end Phases

/-! ## A step for every chunk -/

/-- A step that turns chunk `k`'s `A k` into `B k`, and the device's `G k` into `G (k + 1)`, run for each chunk. -/
theorem eachChunk_rule (R : sProp 𝕄) [BI.Persistent R] (c : Dev nD) (A B : Fin 8 → sProp 𝕄) (G : ℕ → sProp 𝕄) (step : Fin 8 → BProg F → BProg F) (Q : PUnit.{1} → sProp 𝕄)
    (h : ∀ k P, iprop(R ∗ A k ∗ G k.val ∗ (B k ∗ G (k.val + 1) -∗ WP c P Q)) ⊢ WP c (step k P) Q) (P : BProg F) :
    iprop(R ∗ bigSep Finset.univ A ∗ G 0 ∗ (bigSep Finset.univ B ∗ G 8 -∗ WP c P Q)) ⊢ WP c (eachChunk step P) Q := by
  have key : ∀ (l : List (Fin 8)) (n : ℕ), (∀ i (hi : i < l.length), (l[i]).val = n + i) →
      iprop(R ∗ bigSepL l A ∗ G n ∗ (bigSepL l B ∗ G (n + l.length) -∗ WP c P Q)) ⊢ WP c (l.foldr step P) Q := by
    intro l
    induction l with
    | nil =>
      intro n _
      iintro ⟨-, HA, HG, HP⟩
      iapply HP
      isplitl [HA]; · iexact HA
      iexact HG
    | cons k l ih =>
      intro n hn
      have hk : k.val = n := hn 0 (Nat.succ_pos _)
      subst hk
      have ih := ih (k.val + 1) fun i hi => (hn (i + 1) (Nat.succ_lt_succ hi)).trans (by omega)
      have hc : ∀ C : Fin 8 → sProp 𝕄, bigSepL (k :: l) C = iprop(C k ∗ bigSepL l C) := fun C => bigSepL_cons k l C
      rw [List.foldr_cons, hc A, hc B]
      iintro ⟨#HR, ⟨HA, HAs⟩, HG, HP⟩
      iapply (h k _)
      isplitr; · iexact HR
      isplitl [HA]; · iexact HA
      isplitl [HG]; · iexact HG
      iintro ⟨HB, HG⟩
      iapply ih
      isplitr; · iexact HR
      isplitl [HAs]; · iexact HAs
      isplitl [HG]; · iexact HG
      iintro ⟨HBs, HG⟩
      iapply HP
      isplitl [HB HBs]
      · isplitl [HB] <;> iassumption
      · rw [List.length_cons, show k.val + (l.length + 1) = k.val + 1 + l.length by omega]; iexact HG
  have hl : ∀ C : Fin 8 → sProp 𝕄, bigSep Finset.univ C = bigSepL ([0, 1, 2, 3, 4, 5, 6, 7] : List (Fin 8)) C :=
    fun C => bigSep_univ_eq_bigSepL ([0, 1, 2, 3, 4, 5, 6, 7] : List (Fin 8)) (by decide) (by decide) C
  rw [hl A, hl B]
  exact key [0, 1, 2, 3, 4, 5, 6, 7] 0 (by decide)

end Cert.KernelIdeal.Exchange

end
-- ==== Proof.Body.lean ====
/- The whole body of a device, from what the launch gives it to what it leaves. -/
module

public import proofs.«01_k».proof.Proof.Phases

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What a device holds of a chunk before the body, -/
def chunkStart (c : Dev nD) (k : Fin 8) : sProp 𝕄 :=
  iprop(fetchIn c k fsM 0 ∗ fetchIn c k faM 1 ∗ fetchIn c k fbM 2 ∗ sendIn c k ∗ ownIn c k ∗ otherIn c k ∗ drainIn c k
    ∗ ownsAny (c : Thread nD τ) (slot xrM k) ∗ ownsAny (c : Thread nD τ) (slot yrM k))
/-- and after it. -/
def chunkEnd (c : Dev nD) (k : Fin 8) : sProp 𝕄 := iprop(sendOut c k ∗ ownOut c k ∗ otherOut c k ∗ drainOut m c k)
/-- What a device holds to meet its neighbours once on the barrier or the exit semaphore. -/
def meetStart (c : Dev nD) (b : Bool) : sProp 𝕄 :=
  iprop(dutyTok ER (rcell (xdev c) b) 0 true ∗ dutyTok ER (rcell (ydev c) b) 0 false ∗ cred (tallyAt (rcell c b) () 2) ∗ atPos ER (rcell c b) 0 ∅ 0)

/-- The device's slots for receiving are what it hands its neighbours at the barrier. -/
theorem payload_x (c : Dev nD) : (sched (F := F) m).payload (rcell (xdev c) true) 0 true = bigSep Finset.univ fun k : Fin 8 => ownsAny (c : Thread nD τ) (slot xrM k) := by
  rw [payload_bar]; unfold barPay; rw [xdev_xdev]
/-- What the signal to the second neighbour's barrier hands over: the device's slots for receiving across the second axis. -/
theorem payload_y (c : Dev nD) : (sched (F := F) m).payload (rcell (ydev c) true) 0 false = bigSep Finset.univ fun k : Fin 8 => ownsAny (c : Thread nD τ) (slot yrM k) := by
  rw [payload_bar]; unfold barPay; rw [ydev_ydev]

/-- Fetching one part of every chunk. -/
theorem fetch_all (K : Dev nD × CI → ℕ) (c : Dev nD) (src : Fin 8 → Memref sig .tc .hbm S256x1024 .f32) (hs : ∀ k, (src k).view.WordExact)
    (fs : ∀ k, Buf (Elt F) ((src k).view.loc (c : Thread nD τ))) (M : Memref sig .tc .vmem S8x256x1024 .f32) (a : Fin 9)
    (hN : ∀ k, (slot M k).view.dmaCredit = credit a)
    (hx : ∀ k, input m c ⊢ iprop(input m c ∗ ∃ q, (src k).view.loc (c : Thread nD τ) ↦[(src k).view.set]{q} fs k))
    (hpay : ∀ k, owns (c : Thread nD τ) (slot M k) fullShare ((src k).view.read (Elt F) (fs k)) ⊢ dmaPay m c a k)
    (P : BProg F) (Q : PUnit.{1} → sProp 𝕄) :
    iprop(known m K ∗ (bigSep Finset.univ fun k => fetchIn c k M a) ∗ input m c ∗ ((bigSep Finset.univ fun k => crd c a k) ∗ input m c -∗ WP c P Q))
      ⊢ WP c (eachChunk (fun k => fetch (src k) (hs k) M a k) P) Q := by
  refine eachChunk_rule (known m K) c (fun k => fetchIn c k M a) (fun k => crd c a k) (fun _ => input m c) _ Q (fun k P => ?_) P
  unfold fetchIn
  iintro ⟨#Hk, ⟨Ht, HM⟩, Hx, HP⟩
  iapply (fetch_rule m K c k P Q (src k) (hs k) (fs k) M a (hN k) (hx k) (hpay k))
  isplitr; · iexact Hk
  isplitl [Hx]; · iexact Hx
  isplitl [Ht]; · iexact Ht
  isplitl [HM]; · iexact HM
  iintro ⟨Hx, Hc⟩
  iapply HP
  isplitl [Hc] <;> iassumption

/-- The body of device `c`: every chunk goes from its start to its end, both meetings take place, nothing is owed at the end. -/
theorem body_rule (K : Dev nD × CI → ℕ) (c : Dev nD) (Q : PUnit.{1} → sProp 𝕄) :
    iprop(known m K ∗ input m c ∗ (bigSep Finset.univ fun k => chunkStart c k) ∗ meetStart c true ∗ meetStart c false ∗ owing c (O₀ c)
        ∗ (input m c ∗ (bigSep Finset.univ fun k => chunkEnd m c k) ∗ atPos ER (rcell c true) (0 + 1) ∅ 0 ∗ atPos ER (rcell c false) (0 + 1) ∅ 0 ∗ owing c 0
            -∗ |={Set.univ}=> Q ⟨⟩))
      ⊢ WP c (bodyOn c) Q := by
  unfold chunkStart chunkEnd meetStart bodyOn
  simp only [bigSep_sep']
  iintro ⟨#Hk, Hx, ⟨HfS, HfA, HfB, HsI, HoI, HtI, HdI, Hxr, Hyr⟩, ⟨Hbx, Hby, Hbc, Hbp⟩, ⟨Hex, Hey, Hec, Hep⟩, HO, HP⟩
  -- the three rounds of fetches
  iapply (fetch_all m K c (fun k => srcS c k) (srcS_exact c) (fun _ => xin m c) fsM 0 (fun _ => rfl) (fun k => input_view m c _ (k0_off1_inb c k))
    (fun k => by unfold dmaPay partS; exact .rfl) _ Q)
  isplitr; · iexact Hk
  isplitl [HfS]; · iexact HfS
  isplitl [Hx]; · iexact Hx
  iintro ⟨HcS, Hx⟩
  iapply (fetch_all m K c (fun k => srcA c k) (srcA_exact c) (fun _ => xin m c) faM 1 (fun _ => rfl) (fun k => input_view m c _ (k0_off2_inb c k))
    (fun k => by unfold dmaPay partA; exact .rfl) _ Q)
  isplitr; · iexact Hk
  isplitl [HfA]; · iexact HfA
  isplitl [Hx]; · iexact Hx
  iintro ⟨HcA, Hx⟩
  iapply (fetch_all m K c (fun k => srcB c k) (srcB_exact c) (fun _ => xin m c) fbM 2 (fun _ => rfl) (fun k => input_view m c _ (k0_off3_inb c k))
    (fun k => by unfold dmaPay partB; exact .rfl) _ Q)
  isplitr; · iexact Hk
  isplitl [HfB]; · iexact HfB
  isplitl [Hx]; · iexact Hx
  iintro ⟨HcB, Hx⟩
  -- the barrier: receive slots change hands
  iapply (meet_rule m K c _ Q true (O₁ c) (by
    rw [lv_bar]; exact (((above_exit c).mono (by decide)).add ((above_Y c 0).mono (by decide))).add (above_X c 0)))
  rw [payload_x, payload_y, rest_bar]
  isplitr; · iexact Hk
  isplitl [HO]; · iexact HO
  isplitl [Hbx]; · iexact Hbx
  isplitl [Hby]; · iexact Hby
  isplitl [Hxr]; · iexact Hxr
  isplitl [Hyr]; · iexact Hyr
  isplitl [Hbc]; · iexact Hbc
  isplitl [Hbp]; · iexact Hbp
  iintro ⟨HO, Hbp, Hxr, Hyr⟩
  unfold barPay
  -- send
  iapply (eachChunk_rule (known m K) c (fun k => iprop(sendIn c k ∗ crd c 0 k ∗ ownsAny (xdev c : Thread nD τ) (slot xrM k))) (fun k => iprop(sendOut c k ∗ crd c 5 k))
    (fun n => owing c (owedReg false c + owedY c 0 + owedX c n)) _ Q (fun k P => send_step m K c k P Q) _)
  rw [bigSep_sep', bigSep_sep', bigSep_sep']
  isplitr; · iexact Hk
  isplitl [HsI HcS Hxr]
  · isplitl [HsI]; · iexact HsI
    isplitl [HcS] <;> iassumption
  isplitl [HO]; · iexact HO
  rw [owedX_end, add_zero]
  iintro ⟨⟨HsO, Hc5⟩, HO⟩
  -- the own half
  iapply (eachChunk_rule (known m K) c (fun k => iprop(ownIn c k ∗ crd c 1 k ∗ ownsAny (ydev c : Thread nD τ) (slot yrM k))) (fun k => iprop(ownOut c k ∗ crd c 7 k ∗ crd c 3 k ∗ keptHalf m c k))
    (fun n => owing c (owedReg false c + owedY c n)) _ Q (fun k P => own_step m K c k P Q) _)
  rw [bigSep_sep', bigSep_sep', bigSep_sep', bigSep_sep', bigSep_sep']
  isplitr; · iexact Hk
  isplitl [HoI HcA Hyr]
  · isplitl [HoI]; · iexact HoI
    isplitl [HcA] <;> iassumption
  isplitl [HO]; · iexact HO
  rw [owedY_end, add_zero]
  iintro ⟨⟨HoO, Hc7⟩, HO⟩
  -- the other half
  iapply (eachChunk_rule (known m K) c (fun k => iprop(otherIn c k ∗ crd c 2 k)) (fun k => iprop(otherOut c k ∗ crd c 4 k))
    (fun _ => owing c (owedReg false c)) _ Q (fun k P => other_step m K c k P Q) _)
  rw [bigSep_sep', bigSep_sep']
  isplitr; · iexact Hk
  isplitl [HtI HcB]
  · isplitl [HtI] <;> iassumption
  isplitl [HO]; · iexact HO
  iintro ⟨⟨HtO, Hc4⟩, HO⟩
  -- the waits for what is still in flight
  iapply (eachChunk_rule (known m K) c (fun k => iprop(drainIn c k ∗ crd c 5 k ∗ (crd c 7 k ∗ crd c 3 k ∗ keptHalf m c k) ∗ crd c 4 k)) (fun k => drainOut m c k)
    (fun _ => owing c (owedReg false c)) _ Q (fun k P => drain_step m K c k P Q) _)
  rw [bigSep_sep', bigSep_sep', bigSep_sep', bigSep_sep', bigSep_sep']
  isplitr; · iexact Hk
  isplitl [HdI Hc5 Hc7 Hc4]
  · isplitl [HdI]; · iexact HdI
    isplitl [Hc5]; · iexact Hc5
    isplitl [Hc7] <;> iassumption
  isplitl [HO]; · iexact HO
  iintro ⟨HdO, HO⟩
  -- the exit
  iapply (meet_rule m K c _ Q false 0 Above.zero)
  rw [payload_exit, payload_exit]
  isplitr; · iexact Hk
  isplitl [HO]; · rw [zero_add]; iexact HO
  isplitl [Hex]; · iexact Hex
  isplitl [Hey]; · iexact Hey
  isplitr; · iempintro
  isplitr; · iempintro
  isplitl [Hec]; · iexact Hec
  isplitl [Hep]; · iexact Hep
  iintro ⟨HO, Hep, -⟩
  unfold WP
  rw [wp_ret]
  iapply HP
  isplitl [Hx]; · iexact Hx
  isplitl [HsO HoO HtO HdO]
  · isplitl [HsO]; · iexact HsO
    isplitl [HoO]; · iexact HoO
    isplitl [HtO] <;> iassumption
  isplitl [Hbp]; · iexact Hbp
  isplitl [Hep]; · iexact Hep
  iexact HO

end Cert.KernelIdeal.Exchange

end
-- ==== Proof.Geometry.lean ====
/- How the buffers fall into the chunks' pieces: a buffer of eight slots is its slots, and the result is the blocks of
   rows of the two halves. -/
module

public import proofs.«01_k».proof.Proof.Body
public import Idealize.ShloMosaic.Lib.Ring

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Holding a view whole at unstated contents gives its elements in its buffer, -/
theorem ownsAny_elems (c : Dev nD) {sp : Space} {sh : Shape} {e : EltTy} (M : Memref sig .tc sp sh e) :
    (ownsAny (F := F) (c : Thread nD τ) M : sProp 𝕄) ⊢ iprop(∃ f, M.view.loc (c : Thread nD τ) ↦[M.view.set]{fullShare} f) := by
  unfold ownsAny owns
  iintro ⟨%X, %f, -, H⟩
  iexists f; iexact H

/-- and conversely. -/
theorem ownsAny_of_elems (c : Dev nD) {sp : Space} {sh : Shape} {e : EltTy} (M : Memref sig .tc sp sh e)
    (f : Buf (Elt F) (M.view.loc (c : Thread nD τ))) :
    (M.view.loc (c : Thread nD τ) ↦[M.view.set]{fullShare} f : sProp 𝕄) ⊢ ownsAny (F := F) (c : Thread nD τ) M := by
  unfold ownsAny owns
  iintro H
  iexists (M.view.read (Elt F) f), f
  isplitr; · ipureintro; rfl
  iexact H

/-- A buffer held whole at unstated contents, and its view as a whole. -/
theorem ownsAny_whole (c : Dev nD) (b : Ref sig .tc) :
    (ownsAny (F := F) (c : Thread nD τ) (Memref.whole b) : sProp 𝕄) ⊢ iprop(∃ f, (c : Thread nD τ).loc b ↦{fullShare} f) := by
  have e : (Memref.whole b).view.set = Finset.univ := View.set_whole b
  have h := ownsAny_elems (F := F) c (Memref.whole b)
  rw [e] at h
  exact h

/-- A whole buffer's elements, whatever they are, make up the buffer's memref. -/
theorem ownsAny_of_whole (c : Dev nD) (b : Ref sig .tc) :
    (iprop(∃ f, (c : Thread nD τ).loc b ↦{fullShare} f) : sProp 𝕄) ⊢ ownsAny (F := F) (c : Thread nD τ) (Memref.whole b) := by
  have e : (Memref.whole b).view.set = Finset.univ := View.set_whole b
  have h := ownsAny_of_elems (F := F) c (Memref.whole b)
  rw [e] at h
  iintro ⟨%f, H⟩
  iapply (h f); iexact H

/-! ## The slots of a buffer -/

/-- The elements of a slot are those of its rectangle, placed in the buffer. -/
theorem slot_set {e : EltTy} (M : Memref sig .tc .vmem S8x256x1024 e) (k : Fin 8) :
    (slot M k).view.set = (slotR k).set.map M.view.emb := by
  rw [Memref.set_view_squeeze]; exact View.set_slice _ _

/-- Different slots' rectangles don't meet. -/
theorem slotR_disjoint (k k' : Fin 8) (h : k ≠ k') : Disjoint (slotR k).set (slotR k').set := by
  refine Rect.disjoint_of_separated _ _ (0 : Fin 3) ?_
  have := Fin.val_ne_of_ne h
  simp only [slotR, Rect.unit, Matrix.cons_val_zero]
  omega

/-- The slots' rectangles fill the buffer's shape. -/
theorem slotR_cover : (Finset.univ : Finset (Fin 8)).biUnion (fun k => (slotR k).set) = Finset.univ := by
  ext i
  simp only [Finset.mem_biUnion, Finset.mem_univ, true_and, iff_true]
  refine ⟨i 0, ?_⟩
  rw [Rect.mem_set_unit]
  have h1 := (i 1).isLt
  have h2 := (i 2).isLt
  intro a
  match a with
  | 0 => exact ⟨le_rfl, Nat.lt_succ_self _⟩
  | 1 => exact ⟨Nat.zero_le _, by simpa using h1⟩
  | 2 => exact ⟨Nat.zero_le _, by simpa using h2⟩

/-- Different slots of a buffer have no element in common. -/
theorem slot_disjoint {e : EltTy} (M : Memref sig .tc .vmem S8x256x1024 e) (k k' : Fin 8) (h : k ≠ k') :
    Disjoint (slot M k).view.set (slot M k').view.set := by
  rw [slot_set, slot_set, Finset.disjoint_map]; exact slotR_disjoint k k' h

/-- The slots of a buffer have all its elements. -/
theorem slot_cover {e : EltTy} (M : Memref sig .tc .vmem S8x256x1024 e) :
    (Finset.univ : Finset (Fin 8)).biUnion (fun k => (slot M k).view.set) = M.view.set := by
  ext i
  rw [Finset.mem_biUnion]
  constructor
  · rintro ⟨k, -, hk⟩
    rw [slot_set, Finset.mem_map] at hk
    obtain ⟨x, -, rfl⟩ := hk
    exact M.view.emb_mem_set x
  · intro hi
    obtain ⟨x, -, rfl⟩ := Finset.mem_map.1 hi
    obtain ⟨k, -, hk⟩ := Finset.mem_biUnion.1 (slotR_cover ▸ Finset.mem_univ x)
    refine ⟨k, Finset.mem_univ k, ?_⟩
    rw [slot_set, Finset.mem_map]
    exact ⟨x, hk, rfl⟩

/-- A buffer of eight slots held whole is its slots held whole; -/
theorem slots_split (c : Dev nD) {e : EltTy} (M : Memref sig .tc .vmem S8x256x1024 e) :
    (ownsAny (F := F) (c : Thread nD τ) M : sProp 𝕄) ⊢ bigSep Finset.univ fun k => ownsAny (c : Thread nD τ) (slot M k) := by
  refine (ownsAny_elems c M).trans ?_
  iintro ⟨%f, H⟩
  have h : (M.view.loc (c : Thread nD τ) ↦[M.view.set]{fullShare} f : sProp 𝕄)
      ⊢ bigSep Finset.univ fun k => ownsAny (c : Thread nD τ) (slot M k) := by
    rw [Ring.pointsTo_sub_blocks (fun k => (slot M k).view.set) (slot_disjoint M) _ (slot_cover M) f]
    exact bigSep_mono fun k _ => ownsAny_of_elems c (slot M k) f
  iapply h; iexact H

/-- and the slots held whole make up the buffer. -/
theorem slots_join (c : Dev nD) {e : EltTy} (M : Memref sig .tc .vmem S8x256x1024 e) :
    (bigSep Finset.univ fun k => ownsAny (F := F) (c : Thread nD τ) (slot M k) : sProp 𝕄) ⊢ ownsAny (c : Thread nD τ) M := by
  have h₁ : (bigSep Finset.univ fun k => ownsAny (F := F) (c : Thread nD τ) (slot M k) : sProp 𝕄)
      ⊢ bigSep Finset.univ fun k => iprop(∃ f, M.view.loc (c : Thread nD τ) ↦[(slot M k).view.set]{fullShare} f) :=
    bigSep_mono fun k _ => ownsAny_elems c (slot M k)
  have h₂ := Ring.pointsTo_sub_blocks_join_exists (nD := nD) (τ := τ) (sig := sig) (Ix := Unit) (Val := Elt F) (Name := ℕ) (U := UU) (Lvl := ℕ)
    (ℓ := M.view.loc (c : Thread nD τ)) (q := fullShare) (fun k => (slot M k).view.set) (slot_disjoint M) _ (slot_cover M) (fun _ => default)
  refine h₁.trans (h₂.trans ?_)
  iintro ⟨%f, H⟩
  iapply (ownsAny_of_elems c M f); iexact H

/-! ## The blocks of the result -/

/-- The rows of block `k` of the device's own half, and of the other half. -/
theorem mem_dstA (c : Dev nD) (k : Fin 8) (i : S4096x1024.Idx) :
    i ∈ (dstA c k).view.set ↔ 2048 * (c.val % 2) + 256 * k.val ≤ (i 0).val ∧ (i 0).val < 2048 * (c.val % 2) + 256 * k.val + 256 := by
  have e : (dstA c k).view.set = (Rect.unit (s := S4096x1024) (k0_off4 c (rowW k)) S256x1024.size (k0_off4_inb c k)).set := View.set_slice_whole _ _
  rw [e, Rect.mem_set_unit, k0_off4_eq]
  have h1 : (i 1).val < 1024 := (i 1).isLt
  constructor
  · intro h; exact h 0
  · intro h a
    match a with
    | 0 => exact h
    | 1 => exact ⟨Nat.zero_le _, by simpa using h1⟩
/-- An element lies in block `k` of the other half exactly if its row is one of the block's. -/
theorem mem_dstB (c : Dev nD) (k : Fin 8) (i : S4096x1024.Idx) :
    i ∈ (dstB c k).view.set ↔ (256 * k.val + 2048) - 2048 * (c.val % 2) ≤ (i 0).val ∧ (i 0).val < (256 * k.val + 2048) - 2048 * (c.val % 2) + 256 := by
  have e : (dstB c k).view.set = (Rect.unit (s := S4096x1024) (k0_off5 c (rowW k)) S256x1024.size (k0_off5_inb c k)).set := View.set_slice_whole _ _
  rw [e, Rect.mem_set_unit, k0_off5_eq]
  have h1 : (i 1).val < 1024 := (i 1).isLt
  constructor
  · intro h; exact h 0
  · intro h a
    match a with
    | 0 => exact h
    | 1 => exact ⟨Nat.zero_le _, by simpa using h1⟩

/-- The elements of a block of either half, in the result's buffer. -/
def dstSet (c : Dev nD) (t : Fin 8 ⊕ Fin 8) : Finset (Idx ((c : Thread nD τ).loc main_v1)) :=
  Sum.elim (fun k => (dstA c k).view.set) (fun k => (dstB c k).view.set) t

/-- Different blocks of the result have no element in common. -/
theorem dst_disjoint (c : Dev nD) (t t' : Fin 8 ⊕ Fin 8) (h : t ≠ t') : Disjoint (dstSet c t) (dstSet c t') := by
  rw [Finset.disjoint_left]
  intro (i : S4096x1024.Idx) h1 h2
  rcases t with k | k <;> rcases t' with k' | k'
  · have h1 := (mem_dstA c k i).1 h1
    have h2 := (mem_dstA c k' i).1 h2
    exact h (congrArg Sum.inl (Fin.ext (by omega)))
  · have h1 := (mem_dstA c k i).1 h1
    have h2 := (mem_dstB c k' i).1 h2
    omega
  · have h1 := (mem_dstB c k i).1 h1
    have h2 := (mem_dstA c k' i).1 h2
    omega
  · have h1 := (mem_dstB c k i).1 h1
    have h2 := (mem_dstB c k' i).1 h2
    exact h (congrArg Sum.inr (Fin.ext (by omega)))

/-- Every element of the result lies in a block of the one half or of the other. -/
theorem dst_cases (c : Dev nD) (i : S4096x1024.Idx) : (∃ k, i ∈ (dstA c k).view.set) ∨ (∃ k, i ∈ (dstB c k).view.set) := by
  have hi : (i 0).val < 4096 := (i 0).isLt
  by_cases h : (i 0).val / 2048 = c.val % 2
  · left
    refine ⟨⟨(i 0).val % 2048 / 256, by omega⟩, ?_⟩
    rw [mem_dstA]; dsimp only; omega
  · right
    refine ⟨⟨(i 0).val % 2048 / 256, by omega⟩, ?_⟩
    rw [mem_dstB]; dsimp only; omega

/-- The blocks have all the result's elements. -/
theorem dst_cover (c : Dev nD) : (Finset.univ : Finset (Fin 8 ⊕ Fin 8)).biUnion (dstSet c) = Finset.univ := by
  ext i
  simp only [Finset.mem_biUnion, Finset.mem_univ, true_and, iff_true]
  rcases dst_cases c i with ⟨k, h⟩ | ⟨k, h⟩
  · exact ⟨.inl k, h⟩
  · exact ⟨.inr k, h⟩

/-- The result held whole is its blocks held whole. -/
theorem result_split (c : Dev nD) (f : Buf (Elt F) ((c : Thread nD τ).loc main_v1)) :
    ((c : Thread nD τ).loc main_v1 ↦{fullShare} f : sProp 𝕄)
      ⊢ (bigSep Finset.univ fun k => ownsAny (c : Thread nD τ) (dstA c k)) ∗ (bigSep Finset.univ fun k => ownsAny (c : Thread nD τ) (dstB c k)) := by
  rw [Ring.pointsTo_blocks (dstSet c) (dst_disjoint c) (dst_cover c) f, bigSep_univ_sum]
  exact BI.sep_mono (bigSep_mono fun k _ => ownsAny_of_elems c (dstA c k) f) (bigSep_mono fun k _ => ownsAny_of_elems c (dstB c k) f)

/-- What a block held at `X` says of the memory. -/
theorem block_read (c : Dev nD) {sp : Space} {sh : Shape} {e : EltTy} (M : Memref sig .tc sp sh e) (X : sh.Idx → Elt F e) (s' : Phys nD τ sig (Elt F)) :
    iprop(owns (c : Thread nD τ) M fullShare X ∗ (SI s' : sProp 𝕄)) ⊢ iprop(⌜M.view.read (Elt F) (s'.mem.mem (M.view.loc (c : Thread nD τ))) = X⌝ ∗ SI s') := by
  unfold owns
  iintro ⟨⟨%f, %hf, H⟩, HSI⟩
  icombine HSI H gives %h
  isplitr
  · ipureintro; rw [← hf]; exact View.read_congr h
  · iexact HSI

end Cert.KernelIdeal.Exchange

end
-- ==== Proof.Deal.lean ====
/- The launch's set-up: the cells and the tokens minted, the cells' invariants allocated from the semaphores at zero, and
   the tokens dealt to the devices that pay the duties. -/
module

public import proofs.«01_k».proof.Proof.Geometry
public import Idealize.ShloMosaic.Lib.Pipeline.Launch
public import Idealize.ShloMosaic.Lib.Pipeline.Kit

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

/-- A family over the nine arrays and eight chunks, array by array. -/
theorem over_arrays (Φ : Fin 9 → Fin 8 → sProp 𝕄) :
    bigSep Finset.univ (fun p : Fin 9 × Fin 8 => Φ p.1 p.2)
      = iprop((bigSep Finset.univ (Φ 0)) ∗ (bigSep Finset.univ (Φ 1)) ∗ (bigSep Finset.univ (Φ 2)) ∗ (bigSep Finset.univ (Φ 3)) ∗ (bigSep Finset.univ (Φ 4))
          ∗ (bigSep Finset.univ (Φ 5)) ∗ (bigSep Finset.univ (Φ 6)) ∗ (bigSep Finset.univ (Φ 7)) ∗ (bigSep Finset.univ (Φ 8))) := by
  rw [bigSep_univ_prod]
  exact bigSep_univ_eq_bigSepL [0, 1, 2, 3, 4, 5, 6, 7, 8] (by decide) (by decide) (fun a => bigSep Finset.univ (Φ a))

/-- A family over the two counters of units. -/
theorem over_bool (Φ : Bool → sProp 𝕄) : bigSep Finset.univ Φ = iprop(Φ true ∗ Φ false) :=
  bigSep_univ_eq_bigSepL [true, false] (by decide) (by decide) Φ

/-- A family over a device's cells: the transfers' cells, then the barrier and the exit. -/
theorem over_cells (Φ : CI → sProp 𝕄) :
    bigSep Finset.univ Φ = iprop((bigSep Finset.univ fun p : Fin 9 × Fin 8 => Φ (.inl p)) ∗ Φ (.inr true) ∗ Φ (.inr false)) := by
  rw [bigSep_univ_sum, over_bool]; rfl

/-! ## Cells and tokens -/

/-- The kernel's own semaphores: the transfers' and the exit's. -/
abbrev osem : (Fin 9 × Fin 8) ⊕ Unit → SemLoc sig
  | .inl p => .dma (semAt (arrs p.1) p.2)
  | .inr () => .reg exitS

/-- The kernel's own semaphores are exactly the numbered ones, each once. -/
theorem ownSemFacts : Pipeline.OwnSemFacts cfg0.spec osem where
  isScoped := by decide +kernel
  inj := by
    rintro (p | ⟨⟩) (p' | ⟨⟩) h
    · have := csem_injective (a₁ := .inl p) (a₂ := .inl p') h
      cases this; rfl
    · cases h
    · cases h
    · rfl
  disj := fun _ w _ => w.elim0

/-- All cells of all devices. -/
def ringCells : Finset (GSem nD τ sig) := Finset.univ.map ⟨kcell, kcell_injective⟩

/-- A duty token for each cell and each of the two names a duty can have. -/
abbrev tokOf (p : (Dev nD × CI) × Bool) : GSem nD τ sig × ℕ × Bool := (kcell p.1, 0, p.2)
/-- Different duties have different tokens. -/
theorem tokOf_injective : Function.Injective tokOf := by
  rintro ⟨p, d⟩ ⟨p', d'⟩ h
  have h1 : p = p' := kcell_injective (congrArg Prod.fst h)
  have h2 : d = d' := congrArg (fun x => x.2.2) h
  rw [h1, h2]
/-- The tokens of all duties. -/
def ringToks : Finset (GSem nD τ sig × ℕ × Bool) := Finset.univ.map ⟨tokOf, tokOf_injective⟩

/-- The launch element of the resource algebra. -/
def u₀ : UU := (initOf (Pipeline.cells cfgs cellOf_inj) (Pipeline.launchToks cfgs cellOf_inj), initOf ringCells ringToks)

/-- The tokens of device `c`'s own cells. -/
def toks (c : Dev nD) : sProp 𝕄 := bigSep Finset.univ fun i : CI => bigSep Finset.univ fun d : Bool => dutyTok ER (kcell (c, i)) 0 d
/-- The positions at device `c`'s cells. -/
def places (c : Dev nD) : sProp 𝕄 := bigSep Finset.univ fun i : CI => atPos ER (kcell (c, i)) 0 ∅ 0

/-- What the launch element gives device `c`. -/
def G (c : Dev nD) : sProp 𝕄 :=
  iprop((bigSep Finset.univ fun i : CI => roundState ER (sched m) (kcell (c, i)) 0) ∗ places c
    ∗ (bigSep Finset.univ fun i : CI => reached ER (kcell (c, i)) 0) ∗ toks c)

/-- A resource for each cell of the exchange is one for each cell of each device. -/
theorem over_ring (Φ : GSem nD τ sig → sProp 𝕄) :
    bigSep ringCells Φ = bigSep Finset.univ fun c : Dev nD => bigSep Finset.univ fun i : CI => Φ (kcell (c, i)) := by
  unfold ringCells; rw [bigSep_map, bigSep_univ_prod]; rfl

/-- The exchange's initial resources are the devices' shares of them. -/
theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  iintro HX
  imod (Rounds.fund ER (sched m) ringCells ringToks) $$ HX with ⟨Hst, Hr, Hat, Htok⟩
  imodintro
  ihave Hst' := (Entails.of_eq (over_ring fun g => roundState ER (sched m) g 0)) $$ Hst
  ihave Hat' := (Entails.of_eq (over_ring fun g => atPos ER g 0 ∅ 0)) $$ Hat
  ihave Hr' := (Entails.of_eq (over_ring fun g => reached ER g 0)) $$ Hr
  ihave Htok' := (Entails.of_eq hT) $$ Htok
  unfold G places
  rw [bigSep_sep', bigSep_sep', bigSep_sep']
  isplitl [Hst']; · iexact Hst'
  isplitl [Hat']; · iexact Hat'
  isplitl [Hr']; · iexact Hr'
  iexact Htok'

/-! ## The semaphores at zero -/

/-- A device's own semaphores at zero are its DMA cells and its exit cell at zero. -/
theorem ownSems0_eq (c : Dev nD) : (Pipeline.ownSems0 (Ix := Unit) (Name := ℕ) (U := UU) (Lvl := ℕ) (Val := Elt F) (τ := τ) osem c : sProp 𝕄)
    = iprop((bigSep Finset.univ fun p : Fin 9 × Fin 8 => semVal (kcell (c, .inl p)) 0) ∗ semVal (rcell c false) 0) := by
  unfold Pipeline.ownSems0
  rw [bigSep_univ_sum, bigSep_univ_eq_bigSepL [()] (by decide) (by decide)]; rfl

/-- The only semaphore that outlives the kernel is the barrier's. -/
theorem unscopedSems0_eq (c : Dev nD) : (unscopedSems0 c : sProp 𝕄) = semVal (rcell c true) 0 := by
  unfold unscopedSems0; rw [bigSep_eq_bigSepL_of_eq [SemLoc.reg barS] (by decide +kernel) (by decide)]; rfl

/-- A device's semaphores at zero are its cells' counters at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, over_cells]
  iintro ⟨⟨HD, HE⟩, HB⟩
  isplitl [HD]; · iexact HD
  isplitl [HB] <;> iassumption

/-- A device's cells at zero give back the two collections of semaphores at zero. -/
theorem sems0_back (c : Dev nD) :
    (bigSep Finset.univ fun i : CI => semVal (kcell (c, i)) 0 : sProp 𝕄)
      ⊢ iprop(Pipeline.ownSems0 (Ix := Unit) (Name := ℕ) (U := UU) (Lvl := ℕ) (Val := Elt F) (τ := τ) osem c ∗ unscopedSems0 c) := by
  rw [ownSems0_eq, unscopedSems0_eq, over_cells]
  iintro ⟨HD, HB, HE⟩
  isplitl [HD HE]
  · isplitl [HD] <;> iassumption
  iexact HB

/-! ## Allocating the invariants -/

/-- A device's cells at zero and its share of the initial resources become the invariants of its cells and its positions. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (sched m) κ (kcell (c, i))))
          ∗ places c ∗ (bigSep Finset.univ fun i : CI => reached ER (kcell (c, i)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (sched m) (kcell (c, i)) 0)
      ⊢ (|={Set.univ}=> bigSep Finset.univ fun i : CI => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## Dealing the tokens -/

/-- The tokens a device pays its duties with: its own transfers', those of its neighbours' receive cells, and a unit at each
    neighbour's barrier and exit cell. -/
def dealt (c : Dev nD) : sProp 𝕄 :=
  iprop(((bigSep Finset.univ (tok c 0)) ∗ (bigSep Finset.univ (tok c 1)) ∗ (bigSep Finset.univ (tok c 2)) ∗ (bigSep Finset.univ (tok c 3)) ∗ (bigSep Finset.univ (tok c 4))
      ∗ (bigSep Finset.univ (tok c 5)) ∗ (bigSep Finset.univ (tok (xdev c) 6)) ∗ (bigSep Finset.univ (tok c 7)) ∗ (bigSep Finset.univ (tok (ydev c) 8)))
    ∗ (dutyTok ER (rcell (xdev c) true) 0 true ∗ dutyTok ER (rcell (ydev c) true) 0 false)
    ∗ (dutyTok ER (rcell (xdev c) false) 0 true ∗ dutyTok ER (rcell (ydev c) false) 0 false))

/-- A device's own tokens, the unused names dropped. -/
theorem toks_own (c : Dev nD) : (toks c : sProp 𝕄)
    ⊢ iprop(((bigSep Finset.univ (tok c 0)) ∗ (bigSep Finset.univ (tok c 1)) ∗ (bigSep Finset.univ (tok c 2)) ∗ (bigSep Finset.univ (tok c 3)) ∗ (bigSep Finset.univ (tok c 4))
      ∗ (bigSep Finset.univ (tok c 5)) ∗ (bigSep Finset.univ (tok c 6)) ∗ (bigSep Finset.univ (tok c 7)) ∗ (bigSep Finset.univ (tok c 8)))
    ∗ (dutyTok ER (rcell c true) 0 true ∗ dutyTok ER (rcell c true) 0 false)
    ∗ (dutyTok ER (rcell c false) 0 true ∗ dutyTok ER (rcell c false) 0 false)) := by
  unfold toks
  rw [over_cells, over_bool, over_bool, ← over_arrays (F := F) (fun a k => tok c a k)]
  refine sep_mono_left (bigSep_mono fun p _ => ?_)
  rw [over_bool]
  exact (show iprop(dutyTok ER (kcell (c, .inl p)) 0 true ∗ dutyTok ER (kcell (c, .inl p)) 0 false) ⊢ (dutyTok ER (kcell (c, .inl p)) 0 false : sProp 𝕄) from sep_elim_right)

/-- The tokens of the cells, taken together, are the tokens of the payers, taken together. -/
theorem toks_around : (bigSep Finset.univ fun c : Dev nD => (toks c : sProp 𝕄)) ⊢ bigSep Finset.univ fun c : Dev nD => dealt c := by
  refine (bigSep_mono fun c _ => toks_own c).trans ?_
  unfold dealt
  simp only [bigSep_sep']
  rw [bigSep_univ_equiv xEquiv (fun c : Dev nD => bigSep Finset.univ (tok (F := F) c 6)),
    bigSep_univ_equiv yEquiv (fun c : Dev nD => bigSep Finset.univ (tok (F := F) c 8)),
    bigSep_univ_equiv xEquiv (fun c : Dev nD => (dutyTok ER (rcell c true) 0 true : sProp 𝕄)),
    bigSep_univ_equiv yEquiv (fun c : Dev nD => (dutyTok ER (rcell c true) 0 false : sProp 𝕄)),
    bigSep_univ_equiv xEquiv (fun c : Dev nD => (dutyTok ER (rcell c false) 0 true : sProp 𝕄)),
    bigSep_univ_equiv yEquiv (fun c : Dev nD => (dutyTok ER (rcell c false) 0 false : sProp 𝕄))]
  exact Idealize.SL.BI.Entails.refl _

/-! ## What every device gets -/

/-- The shared facts but the levels. -/
def records (K : Dev nD × CI → ℕ) : sProp 𝕄 :=
  iprop((bigSep Finset.univ fun p : Dev nD × CI => cellInv ER (sched m) (K p) (kcell p))
    ∗ bigSep Finset.univ fun p : Dev nD × CI => reached ER (kcell p) 0)

/-- The records of the cells can be kept and used again. -/
instance records_persistent (K : Dev nD × CI → ℕ) : BI.Persistent (records (F := F) m K) := by unfold records; infer_instance

/-- What the global step leaves device `c`. -/
def G' (c : Dev nD) : sProp 𝕄 := iprop(∃ K, records m K ∗ places c ∗ dealt c)

/-- What every device needs of a shared record can be given to each. -/
theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The devices' allocations, taken together, give every device the records and the tokens it pays with. -/
theorem regroup :
    (bigSep Finset.univ fun c : Dev nD => iprop((bigSep Finset.univ fun i : CI => iprop(∃ κ : ℕ, cellInv ER (sched m) κ (kcell (c, i))))
          ∗ places c ∗ (bigSep Finset.univ fun i : CI => reached ER (kcell (c, i)) 0) ∗ toks c) : sProp 𝕄)
      ⊢ bigSep Finset.univ (G' m) := by
  rw [bigSep_sep', bigSep_sep', bigSep_sep', ← bigSep_univ_prod (fun p : Dev nD × CI => iprop(∃ κ : ℕ, cellInv ER (sched m) κ (kcell p))),
    ← bigSep_univ_prod (fun p : Dev nD × CI => (reached ER (kcell p) 0 : sProp 𝕄))]
  iintro ⟨HI, Hat, #HR, Htok⟩
  ihave HK := (BI.bigSep_exists_pi Finset.univ (fun (p : Dev nD × CI) (κ : ℕ) => (cellInv ER (sched m) κ (kcell p) : sProp 𝕄))) $$ HI
  icases HK with ⟨%K, #HI⟩
  ihave Htk := (toks_around (F := F)) $$ Htok
  iapply (spread (F := F) (R := records m K) (Φ := fun c => iprop(places c ∗ dealt c)) fun c => by
    unfold G'
    iintro ⟨HR, HP⟩
    iexists K
    isplitl [HR] <;> iassumption)
  isplitr
  · unfold records; isplitl; · iexact HI
    iexact HR
  · rw [bigSep_sep']
    isplitl [Hat]; · iexact Hat
    iexact Htk

/-- The global step: from every device's semaphores at zero and its launch element. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Exchange

end
-- ==== Proof.Ends.lean ====
/- The two ends of the body: what the launch deals a device, sorted chunk by chunk, and what the body leaves, with the cells
   closed and the chunks' pieces back in whole buffers. -/
module

public import proofs.«01_k».proof.Proof.Deal

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- A tally at one cell, read at another: its amount if they are the same, nothing otherwise. -/
theorem tally_cell (p q : Dev nD × CI) (n : ℕ) : (tallyAt (kcell p) () n : CellTallies nD τ sig Unit) (kcell q) () = if p = q then n else 0 := by
  rw [tallyAt_apply]
  by_cases h : p = q
  · rw [if_pos h, if_pos ⟨by rw [h], rfl⟩]
  · rw [if_neg h, if_neg fun h' => h (kcell_injective h'.1.symm)]

/-- A device is the first neighbour of exactly its own first neighbour. -/
theorem xdev_eq_iff (d c : Dev nD) : xdev d = c ↔ d = xdev c :=
  ⟨fun h => by rw [← h, xdev_xdev], fun h => by rw [h, xdev_xdev]⟩
/-- A device is the second neighbour of exactly its own second neighbour. -/
theorem ydev_eq_iff (d c : Dev nD) : ydev d = c ↔ d = ydev c :=
  ⟨fun h => by rw [← h, ydev_ydev], fun h => by rw [h, ydev_ydev]⟩

/-- What device `d` owes device `c`'s cell `i` at launch. -/
theorem owed_at (d c : Dev nD) (i : CI) : O₀ d (kcell (c, i)) ()
    = ((if d = ydev c ∧ .inr false = i then 1 else 0) + (if d = xdev c ∧ .inr false = i then 1 else 0)
      + (∑ k : Fin 8, if d = ydev c ∧ .inl (8, k) = i then credit 8 else 0) + (∑ k : Fin 8, if d = xdev c ∧ .inl (6, k) = i then credit 6 else 0))
      + ((if d = ydev c ∧ .inr true = i then 1 else 0) + (if d = xdev c ∧ .inr true = i then 1 else 0)) := by
  have hall : Finset.univ.filter (fun k : Fin 8 => 0 ≤ k.val) = Finset.univ := by decide
  have hX : owedX d 0 (kcell (c, i)) () = ∑ k : Fin 8, if d = xdev c ∧ (.inl (6, k) : CI) = i then credit 6 else 0 := by
    unfold owedX
    rw [hall, Finset.sum_apply, Finsupp.finset_sum_apply]
    refine Finset.sum_congr rfl fun k _ => ?_
    rw [tally_cell (xdev d, .inl (6, k)) (c, i)]
    simp only [Prod.mk.injEq, xdev_eq_iff]
  have hY : owedY d 0 (kcell (c, i)) () = ∑ k : Fin 8, if d = ydev c ∧ (.inl (8, k) : CI) = i then credit 8 else 0 := by
    unfold owedY
    rw [hall, Finset.sum_apply, Finsupp.finset_sum_apply]
    refine Finset.sum_congr rfl fun k _ => ?_
    rw [tally_cell (ydev d, .inl (8, k)) (c, i)]
    simp only [Prod.mk.injEq, ydev_eq_iff]
  have hR (b : Bool) : owedReg b d (kcell (c, i)) () = (if d = ydev c ∧ (.inr b : CI) = i then 1 else 0) + (if d = xdev c ∧ (.inr b : CI) = i then 1 else 0) := by
    unfold owedReg
    rw [Pi.add_apply, Finsupp.add_apply, tally_cell (ydev d, .inr b) (c, i), tally_cell (xdev d, .inr b) (c, i)]
    simp only [Prod.mk.injEq, xdev_eq_iff, ydev_eq_iff]
  unfold O₀ O₁
  rw [Pi.add_apply, Finsupp.add_apply, Pi.add_apply, Finsupp.add_apply, Pi.add_apply, Finsupp.add_apply, hX, hY, hR, hR]

/-- What a cell's launch credit amounts to, from the sum of what is owed to it. -/
theorem launch_at (c : Dev nD) (i : CI) (n : ℕ) (h : ∑ d : Dev nD, O₀ d (kcell (c, i)) () = n) :
    tallyOn (kcell (c, i)) (launchCredit (Pipeline.owing O₀) 0 (kcell (c, i))) = (tallyAt (kcell (c, i)) () n : CellTallies nD τ sig Unit) := by
  unfold tallyAt; refine congrArg _ (Finsupp.ext fun u => ?_); cases u
  rw [Pipeline.launchCredit_owing, Finsupp.single_eq_same, h]

/-- All devices together owe two units to each barrier and each exit cell. -/
theorem sum_reg (c : Dev nD) (b : Bool) : ∑ d : Dev nD, O₀ d (kcell (c, .inr b)) () = 2 := by
  rw [Finset.sum_congr rfl fun d _ => owed_at d c (.inr b)]
  cases b <;> simp [Finset.sum_add_distrib]
/-- All devices together owe one chunk's credit to each cell that counts an arrival across the first axis. -/
theorem sum_X (c : Dev nD) (k : Fin 8) : ∑ d : Dev nD, O₀ d (kcell (c, .inl (6, k))) () = credit 6 := by
  rw [Finset.sum_congr rfl fun d _ => owed_at d c (.inl (6, k))]
  simp [ite_and]
/-- All devices together owe one chunk's credit to each cell that counts an arrival across the second axis. -/
theorem sum_Y (c : Dev nD) (k : Fin 8) : ∑ d : Dev nD, O₀ d (kcell (c, .inl (8, k))) () = credit 8 := by
  rw [Finset.sum_congr rfl fun d _ => owed_at d c (.inl (8, k))]
  simp [ite_and]

/-- The credit to wait with for what the neighbours send and signal. -/
theorem creds (c : Dev nD) :
    (Pipeline.launchCred O₀ c : sProp 𝕄)
      ⊢ iprop((bigSep Finset.univ (crd c 6)) ∗ (bigSep Finset.univ (crd c 8)) ∗ cred (tallyAt (rcell c true) () 2) ∗ cred (tallyAt (rcell c false) () 2)) := by
  unfold Pipeline.launchCred
  refine (bigSep_subset (Finset.subset_univ (Finset.univ.map ⟨csem, csem_injective⟩))).trans ?_
  rw [bigSep_map, over_cells]
  refine (sep_mono_left (Entails.of_eq (over_arrays (F := F) fun a k => cred (tallyOn (kcell (c, .inl (a, k))) (launchCredit (Pipeline.owing O₀) 0 (kcell (c, .inl (a, k)))))))).trans ?_
  have h6 : (bigSep Finset.univ fun k => (cred (tallyOn (kcell (c, .inl (6, k))) (launchCredit (Pipeline.owing O₀) 0 (kcell (c, .inl (6, k))))) : sProp 𝕄))
      = bigSep Finset.univ (crd c 6) := bigSep_congr fun k _ => by rw [launch_at c (.inl (6, k)) _ (sum_X c k)]
  have h8 : (bigSep Finset.univ fun k => (cred (tallyOn (kcell (c, .inl (8, k))) (launchCredit (Pipeline.owing O₀) 0 (kcell (c, .inl (8, k))))) : sProp 𝕄))
      = bigSep Finset.univ (crd c 8) := bigSep_congr fun k _ => by rw [launch_at c (.inl (8, k)) _ (sum_Y c k)]
  rw [h6, h8]
  iintro ⟨⟨-, -, -, -, -, -, H6, -, H8⟩, HB, HE⟩
  isplitl [H6]; · iexact H6
  isplitl [H8]; · iexact H8
  isplitl [HB]
  · rw [← launch_at c (.inr true) 2 (sum_reg c true)]; iexact HB
  · rw [← launch_at c (.inr false) 2 (sum_reg c false)]; iexact HE

/-! ## The scratch buffers -/

/-- The eight scratch buffers, each whole at some contents. -/
def scratch (c : Dev nD) : sProp 𝕄 :=
  iprop(ownsAny (c : Thread nD τ) fsM ∗ ownsAny (c : Thread nD τ) faM ∗ ownsAny (c : Thread nD τ) fbM ∗ ownsAny (c : Thread nD τ) xsM
    ∗ ownsAny (c : Thread nD τ) xrM ∗ ownsAny (c : Thread nD τ) yrM ∗ ownsAny (c : Thread nD τ) oaM ∗ ownsAny (c : Thread nD τ) obM)

/-- The buffers the call allocates are the eight scratch buffers, whatever they hold; -/
theorem scratch_in (c : Dev nD) : (Pipeline.scopedRest cfg0.spec c : sProp 𝕄) ⊢ scratch c := by
  rw [scopedRest0_eq]; unfold scratch
  exact BI.sep_mono (ownsAny_of_whole c _) (BI.sep_mono (ownsAny_of_whole c _) (BI.sep_mono (ownsAny_of_whole c _) (BI.sep_mono (ownsAny_of_whole c _)
    (BI.sep_mono (ownsAny_of_whole c _) (BI.sep_mono (ownsAny_of_whole c _) (BI.sep_mono (ownsAny_of_whole c _) (ownsAny_of_whole c _)))))))
/-- and the eight scratch buffers, whatever they hold, are given back as those. -/
theorem scratch_out (c : Dev nD) : scratch c ⊢ (Pipeline.scopedRest cfg0.spec c : sProp 𝕄) := by
  rw [scopedRest0_eq]; unfold scratch
  exact BI.sep_mono (ownsAny_whole c _) (BI.sep_mono (ownsAny_whole c _) (BI.sep_mono (ownsAny_whole c _) (BI.sep_mono (ownsAny_whole c _)
    (BI.sep_mono (ownsAny_whole c _) (BI.sep_mono (ownsAny_whole c _) (BI.sep_mono (ownsAny_whole c _) (ownsAny_whole c _)))))))

/-! ## Before the body -/

/-- What a device holds at launch, sorted into its chunks and its two meetings. -/
theorem starts (c : Dev nD) :
    iprop(places c ∗ dealt c ∗ (bigSep Finset.univ (crd c 6)) ∗ (bigSep Finset.univ (crd c 8)) ∗ cred (tallyAt (rcell c true) () 2) ∗ cred (tallyAt (rcell c false) () 2)
        ∗ scratch c ∗ (bigSep Finset.univ fun k => ownsAny (c : Thread nD τ) (dstA c k)) ∗ (bigSep Finset.univ fun k => ownsAny (c : Thread nD τ) (dstB c k)))
      ⊢ (iprop((bigSep Finset.univ fun k => chunkStart c k) ∗ meetStart c true ∗ meetStart c false) : sProp 𝕄) := by
  unfold places chunkStart fetchIn sendIn ownIn otherIn drainIn meetStart dealt scratch
  simp only [bigSep_sep']
  rw [over_cells, over_arrays (F := F) (fun a k => pos c a k)]
  iintro ⟨⟨⟨P0, P1, P2, P3, P4, P5, P6, P7, P8⟩, PB, PE⟩, ⟨⟨T0, T1, T2, T3, T4, T5, T6, T7, T8⟩, ⟨TBx, TBy⟩, ⟨TEx, TEy⟩⟩, C6, C8, CB, CE, ⟨S0, S1, S2, S3, S4, S5, S6, S7⟩, DA, DB⟩
  ihave S0 := (slots_split c fsM) $$ S0
  ihave S1 := (slots_split c faM) $$ S1
  ihave S2 := (slots_split c fbM) $$ S2
  ihave S3 := (slots_split c xsM) $$ S3
  ihave S4 := (slots_split c xrM) $$ S4
  ihave S5 := (slots_split c yrM) $$ S5
  ihave S6 := (slots_split c oaM) $$ S6
  ihave S7 := (slots_split c obM) $$ S7
  isplitr [PB PE TBx TBy TEx TEy CB CE]
  · isplitl [T0 S0]; · isplitl [T0] <;> iassumption
    isplitl [T1 S1]; · isplitl [T1] <;> iassumption
    isplitl [T2 S2]; · isplitl [T2] <;> iassumption
    isplitl [P0 S3 T5 T6]
    · isplitl [P0]; · iexact P0
      isplitl [S3]; · iexact S3
      isplitl [T5] <;> iassumption
    isplitl [P6 C6 T7 T8 P1 S6 T3 DA]
    · isplitl [P6]; · iexact P6
      isplitl [C6]; · iexact C6
      isplitl [T7]; · iexact T7
      isplitl [T8]; · iexact T8
      isplitl [P1]; · iexact P1
      isplitl [S6]; · iexact S6
      isplitl [T3] <;> iassumption
    isplitl [P8 C8 P2 S7 T4 DB]
    · isplitl [P8]; · iexact P8
      isplitl [C8]; · iexact C8
      isplitl [P2]; · iexact P2
      isplitl [S7]; · iexact S7
      isplitl [T4] <;> iassumption
    isplitl [P5 P7 P3 P4]
    · isplitl [P5]; · iexact P5
      isplitl [P7]; · iexact P7
      isplitl [P3] <;> iassumption
    isplitl [S4] <;> iassumption
  isplitl [TBx TBy CB PB]
  · isplitl [TBx]; · iexact TBx
    isplitl [TBy]; · iexact TBy
    isplitl [CB] <;> iassumption
  · isplitl [TEx]; · iexact TEx
    isplitl [TEy]; · iexact TEy
    isplitl [CE] <;> iassumption

/-! ## After the body -/

/-- The blocks of the result at their final contents. -/
def results (c : Dev nD) : sProp 𝕄 :=
  iprop((bigSep Finset.univ fun k => owns (c : Thread nD τ) (dstA c k) fullShare (outA m c k)) ∗ (bigSep Finset.univ fun k => owns (c : Thread nD τ) (dstB c k) fullShare (outB m c k)))

/-- What the chunks leave, in whole buffers. -/
theorem finishes (c : Dev nD) :
    iprop((bigSep Finset.univ fun k => chunkEnd m c k) ∗ atPos ER (rcell c true) (0 + 1) ∅ 0 ∗ atPos ER (rcell c false) (0 + 1) ∅ 0)
      ⊢ (iprop((bigSep Finset.univ fun i : CI => atPos ER (kcell (c, i)) (0 + 1) ∅ 0) ∗ scratch c ∗ results m c) : sProp 𝕄) := by
  unfold chunkEnd sendOut ownOut otherOut drainOut scratch results
  simp only [bigSep_sep']
  rw [over_cells, over_arrays (F := F) (fun a k => past c a k)]
  iintro ⟨⟨⟨P0, S0⟩, ⟨P6, P1, S1⟩, ⟨P8, P2, S2, S5⟩, P5, P7, P3, P4, S3, S4, S6, S7, DA, DB⟩, PB, PE⟩
  ihave S0 := (slots_join c fsM) $$ S0
  ihave S1 := (slots_join c faM) $$ S1
  ihave S2 := (slots_join c fbM) $$ S2
  ihave S3 := (slots_join c xsM) $$ S3
  ihave S4 := (slots_join c xrM) $$ S4
  ihave S5 := (slots_join c yrM) $$ S5
  ihave S6 := (slots_join c oaM) $$ S6
  ihave S7 := (slots_join c obM) $$ S7
  isplitl [P0 P1 P2 P3 P4 P5 P6 P7 P8 PB PE]
  · isplitl [P0 P1 P2 P3 P4 P5 P6 P7 P8]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7] <;> iassumption
    · isplitl [PB] <;> iassumption
  isplitr [DA DB]
  · isplitl [S0]; · iexact S0
    isplitl [S1]; · iexact S1
    isplitl [S2]; · iexact S2
    isplitl [S3]; · iexact S3
    isplitl [S4]; · iexact S4
    isplitl [S5]; · iexact S5
    isplitl [S6] <;> iassumption
  · isplitl [DA] <;> iassumption

/-- Past its only round every cell closes, its counter at zero. -/
theorem closes (K : Dev nD × CI → ℕ) (c : Dev nD) :
    iprop(known m K ∗ bigSep Finset.univ fun i : CI => atPos ER (kcell (c, i)) (0 + 1) ∅ 0)
      ⊢ |={Set.univ}=> (bigSep Finset.univ fun i : CI => semVal (kcell (c, i)) 0 : sProp 𝕄) := by
  refine (sep_mono_left (BI.bigSep_of_persistent (Finset.univ : Finset CI) (known m K))).trans ?_
  rw [← bigSep_sep']
  exact (bigSep_mono fun i _ => (sep_mono_left (known_inv m K (c, i))).trans
    (Rounds.cell_close ER (sched m) (Set.mem_univ _) (fun h => h) (R := 0 + 1) (duties_later m (kcell (c, i))))).trans (bigSep_fupd _ _)

end Cert.KernelIdeal.Exchange

end
-- ==== Proof.Run.lean ====
/- The run of the whole mesh: every device's body put into the launch theorem, and what every final state holds. -/
module

public import proofs.«01_k».proof.Proof.Ends
public import proofs.«01_k».proof.Proof.Gen.KernelIdeal.Points
public import Idealize.ShloMosaic.Lib.Quiescent
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch theorem asks for it -/

/-- Before the body: the shared facts with the device's positions, tokens and credit, its input, its result blocks and its
    scratch buffers. -/
def start (c : Dev nD) : sProp 𝕄 :=
  iprop((∃ K, known m K) ∗ places c ∗ dealt c ∗ (bigSep Finset.univ (crd c 6)) ∗ (bigSep Finset.univ (crd c 8))
    ∗ cred (tallyAt (rcell c true) () 2) ∗ cred (tallyAt (rcell c false) () 2) ∗ input m c
    ∗ (bigSep Finset.univ fun k => ownsAny (c : Thread nD τ) (dstA c k)) ∗ (bigSep Finset.univ fun k => ownsAny (c : Thread nD τ) (dstB c k)))
/-- What a device holds when the body starts. -/
def Φ₀ (c : Dev nD) : sProp 𝕄 := iprop(start m c ∗ scratch c)
/-- After it: every counter of the device at zero, the input, the result, the scratch buffers. -/
def Φ₁ (c : Dev nD) : sProp 𝕄 :=
  iprop((bigSep Finset.univ fun i : CI => semVal (kcell (c, i)) 0) ∗ input m c ∗ results m c ∗ scratch c)

/-- The pipeline's data: the call has no window, and goes from what the body starts with to what it ends with. -/
def dats (_ : Fin 1) (c : Dev nD) : Pipeline.Dat τ (Elt F) Unit ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body runs from the one to the other, paying all it owes. -/
theorem body_wp (c : Dev nD) (Q : PUnit.{1} → sProp 𝕄) :
    iprop(Φ₀ m c ∗ owing c (O₀ c) ∗ (Φ₁ m c ∗ owing c 0 -∗ Q ⟨⟩)) ⊢ WP c (bodyOn c) Q := by
  unfold Φ₀ start
  iintro ⟨⟨⟨⟨%K, #Hk⟩, Hp, Ht, H6, H8, Hb, He, Hx, HA, HB⟩, Hs⟩, HO, HQ⟩
  ihave H := (starts (F := F) c) $$ [Hp Ht H6 H8 Hb He HA HB Hs]
  · isplitl [Hp]; · iexact Hp
    isplitl [Ht]; · iexact Ht
    isplitl [H6]; · iexact H6
    isplitl [H8]; · iexact H8
    isplitl [Hb]; · iexact Hb
    isplitl [He]; · iexact He
    isplitl [Hs]; · iexact Hs
    isplitl [HA] <;> iassumption
  icases H with ⟨Hc, HmB, HmE⟩
  iapply (body_rule m K c Q)
  isplitr; · iexact Hk
  isplitl [Hx]; · iexact Hx
  isplitl [Hc]; · iexact Hc
  isplitl [HmB]; · iexact HmB
  isplitl [HmE]; · iexact HmE
  isplitl [HO]; · iexact HO
  iintro ⟨Hx, Hc, HpB, HpE, HO⟩
  ihave H := (finishes m c) $$ [Hc HpB HpE]
  · isplitl [Hc]; · iexact Hc
    isplitl [HpB] <;> iassumption
  icases H with ⟨Hp, Hs, Hr⟩
  imod (closes m K c) $$ [Hp] with Hz
  · isplitr; · iexact Hk
    iexact Hp
  imodintro
  iapply HQ
  unfold Φ₁
  isplitr [HO]
  · isplitl [Hz]; · iexact Hz
    isplitl [Hx]; · iexact Hx
    isplitl [Hr] <;> iassumption
  · iexact HO

set_option maxRecDepth 20000 in
/-- The launch theorem's obligation for the body. -/
theorem body_obligation (c : Dev nD) : Pipeline.BodyObligation (dats m ρ 0 c) (defs₀ (F := F)) 𝒱₀ () Set.univ := fun t => by
  rw [fin_N0 t]
  show iprop(Φ₀ m c ∗ Pipeline.owesWithin c (O₀ c) _ ∗ bigSep Finset.univ _)
    ⊢ wp frame (wpE (defs₀ (F := F)) 𝒱₀ (c : Thread nD τ) none) Set.univ (bodyAt0 (F := F) t0_0)
        fun _ => iprop(Φ₁ m c ∗ Pipeline.owesWithin c 0 _ ∗ bigSep Finset.univ _)
  rw [show bodyAt0 (F := F) t0_0 = .op .deviceId fun c => bodyOn c from (congrArg _ rfl).trans body_eq, wp_deviceId]
  iintro ⟨HΦ, ⟨%W, -, HO⟩, -⟩
  iapply (body_wp m c _)
  isplitl [HΦ]; · iexact HΦ
  isplitl [HO]; · unfold owing; iexists W; iexact HO
  unfold owing
  iintro ⟨HΦ, ⟨%W', HO⟩⟩
  isplitl [HΦ]; · iexact HΦ
  isplitl [HO]
  · iexists W'
    isplitr; · ipureintro; exact fun _ _ => Or.inl trivial
    iexact HO
  rw [bigSep_univ_eq_bigSepL [] (by decide) (by decide)]
  iempintro

/-! ## The launch theorem's side conditions -/

/-- The launch gives a device what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  iintro ⟨⟨Hx, Ho⟩, Hlev, Hcr, -, ⟨%K, Hrec, Hp, Ht⟩⟩
  ihave Hc := (creds (F := F) c) $$ Hcr
  icases Hc with ⟨H6, H8, Hb, He⟩
  ihave Ho := (result_split c _) $$ Ho
  icases Ho with ⟨HA, HB⟩
  imodintro
  isplitl
  · isplitl [Hrec Hlev]
    · iexists K
      unfold records known
      icases Hrec with ⟨HI, HR⟩
      isplitl [HI]; · iexact HI
      isplitl [HR] <;> iassumption
    isplitl [Hp]; · iexact Hp
    isplitl [Ht]; · iexact Ht
    isplitl [H6]; · iexact H6
    isplitl [H8]; · iexact H8
    isplitl [Hb]; · iexact Hb
    isplitl [He]; · iexact He
    isplitl [Hx]
    · unfold input; iexists fullShare; iexact Hx
    isplitl [HA] <;> iassumption
  · iempintro

/-- With the scratch buffers that is what the body starts with. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_in (F := F) c); iexact Hr

/-- What a device ends with besides its scratch buffers and its own semaphores. -/
def finish (c : Dev nD) : sProp 𝕄 := iprop(unscopedSems0 c ∗ input m c ∗ results m c)

/-- What the body ends with gives the scratch buffers and the semaphores back. -/
theorem phi1_exit (c : Dev nD) :
    (dats m ρ 0 c).Φ (Fin.last cfg0.N) ⊢ iprop(finish m c ∗ Pipeline.ownSems0 osem c ∗ Pipeline.scopedRest cfg0.spec c) := by
  rw [show (dats m ρ 0 c).Φ (Fin.last cfg0.N) = Φ₁ m c from rfl]
  unfold Φ₁ finish
  iintro ⟨Hz, Hx, Hr, Hs⟩
  ihave H := (sems0_back (F := F) c) $$ Hz
  icases H with ⟨Ho, Hu⟩
  isplitl [Hu Hx Hr]
  · isplitl [Hu]; · iexact Hu
    isplitl [Hx] <;> iassumption
  isplitl [Ho]; · iexact Ho
  iapply (scratch_out (F := F) c); iexact Hs

/-! ## What a final state holds -/

/-- Reading eight blocks off the memory. -/
theorem blocks_read (c : Dev nD) (M : Fin 8 → Memref sig .tc .hbm S256x1024 .bf16) (X : Fin 8 → FVec F S256x1024 .bf16) (s' : Phys nD τ sig (Elt F)) :
    iprop((bigSep Finset.univ fun k => owns (c : Thread nD τ) (M k) fullShare (X k)) ∗ (SI s' : sProp 𝕄))
      ⊢ iprop(⌜∀ k, (M k).view.read (Elt F) (s'.mem.mem ((M k).view.loc (c : Thread nD τ))) = X k⌝ ∗ SI s') := by
  have h (k : Fin 8) : iprop((bigSep Finset.univ fun k => owns (c : Thread nD τ) (M k) fullShare (X k)) ∗ (SI s' : sProp 𝕄))
      ⊢ ⌜(M k).view.read (Elt F) (s'.mem.mem ((M k).view.loc (c : Thread nD τ))) = X k⌝ :=
    ((sep_mono_left (bigSep_elim (Finset.mem_univ k))).trans (block_read c (M k) (X k) s')).trans sep_elim_left
  exact (persistent_entails_right ((forall_intro h).trans pure_forall.2)).trans (sep_mono_right sep_elim_right)

/-- The input is unchanged and each block of the result holds what the device computes for it. -/
def Ends (c : Dev nD) (s : MemSt nD τ sig (Elt F)) : Prop :=
  s.mem ((c : Thread nD τ).loc main_arg0) = xin m c
    ∧ (∀ k, (dstA c k).view.read (Elt F) (s.mem ((c : Thread nD τ).loc main_v1)) = outA m c k)
    ∧ ∀ k, (dstB c k).view.read (Elt F) (s.mem ((c : Thread nD τ).loc main_v1)) = outB m c k

/-- What a device ends with says of the memory: its lasting semaphores are at zero, its input is unchanged and its result's blocks are computed. -/
theorem finish_read (c : Dev nD) (s' : Phys nD τ sig (Elt F)) :
    iprop(finish m c ∗ (emp : sProp 𝕄) ∗ SI s')
      ⊢ |={Set.univ}=> iprop(⌜(∀ sm : SemLoc sig, sm.isScoped .tc = false → s'.mem.sem ((c.tc : Thread nD τ), sm) = 0) ∧ Ends m c s'.mem⌝ ∗ SI s') := by
  unfold finish input results
  iintro ⟨⟨Hu, ⟨%q, Hx⟩, HA, HB⟩, -, HSI⟩
  icombine HSI Hx gives %hx
  ihave H := (blocks_read c (dstA c) (outA m c) s') $$ [HA HSI]
  · isplitl [HA] <;> iassumption
  icases H with ⟨%hA, HSI⟩
  ihave H := (blocks_read c (dstB c) (outB m c) s') $$ [HB HSI]
  · isplitl [HB] <;> iassumption
  icases H with ⟨%hB, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hx, hA, hB⟩
  iexact HSI

/-! ## The run -/

set_option maxRecDepth 40000 in
/-- From any memory with all counters at zero, every execution of the kernel on the mesh ends; at its end each device's
    input is unchanged, each block of its result holds the computed sum, and every counter is at zero. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m ρ) () 0 c fun w => w.elim0)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Ends m c s)
    (hY := finish_read m)
    (hQ := fun _ h hs => ⟨fun c => (h c).2.2.2, sem_eq_zero hs fun c => (h c).2.2.1⟩)

end Cert.KernelIdeal.Exchange

end
-- ==== Proof.Value.lean ====
/- What the kernel computes, over the extended reals. Each block of a device's result is read as entries of the whole input
   array; entry by entry it is the sum of the array's two slices, which is what the reference computes. -/
module

public import proofs.«01_k».proof.Proof.Protocol
public import proofs.«01_k».proof.Proof.Geometry
public import proofs.«01_k».proof.Proof.Run
public import Idealize.ShloMosaic.Lib.Layout
public import Idealize.ShloMosaic.Lib.ValueLayout
public import Idealize.ShloMosaic.Lib.Pipeline.ValueKit.Geometry
public import Idealize.ShloMosaic.Lib.Pointwise.Reduce
public import Idealize.ShloMosaic.PureOps.Ideal
public import Idealize.ShloMosaic.PureOps.Ideal.Laws
public import proofs.«01_k».proof.ReferenceIdeal

@[expose] public section

noncomputable section

namespace Cert.KernelIdeal.Exchange

open Cert.KernelIdeal Cert.KernelIdeal.Gen
open Idealize.ShloMosaic Idealize.ShloMosaic.TcCoe
open Idealize.SL Idealize.SL.Sem

/-! ## The whole arrays -/

/-- The shape of the whole input. -/
abbrev SW : Shape := ⟨3, ![2, 4096, 2048]⟩
/-- The shape of the whole result. -/
abbrev SR : Shape := ⟨2, ![4096, 2048]⟩

/-- The entry of the whole input at three numbers; zero outside the array. -/
def entry (W : SW.Idx → EReal) (a r t : ℕ) : EReal :=
  if h : a < 2 ∧ r < 4096 ∧ t < 2048 then W (ix3 ⟨a, h.1⟩ ⟨r, h.2.1⟩ ⟨t, h.2.2⟩) else 0

/-- An index of the whole input names the entry at its coordinates. -/
theorem entry_of (W : SW.Idx → EReal) (i : SW.Idx) {a r t : ℕ} (ha : (i 0).val = a) (hr : (i 1).val = r) (ht : (i 2).val = t) :
    W i = entry W a r t := by
  subst ha hr ht
  unfold entry
  rw [dif_pos ⟨(i 0).isLt, (i 1).isLt, (i 2).isLt⟩]
  congr 1
  funext b
  match b with
  | 0 => rfl
  | 1 => rfl
  | 2 => rfl

/-- Every device's input is its slice of the whole array `W`. -/
def Holds (m : (ℓ : Loc nD τ sig) → Buf (Elt Ideal) ℓ) (W : SW.Idx → EReal) : Prop :=
  ∀ c : Dev nD, xin m c = Layout.blockN ⟨3, ![1, 4096, 2048]⟩ SW (Layout.meshBlock [2, 2] ![[0], [], []] c) W

/-- A device's slice has number `c / 2`, and is not cut along the other dimensions. -/
theorem slice_of : ∀ c : Dev nD, ((Layout.meshBlock [2, 2] (![[0], [], []] : Fin 3 → List ℕ) c) 0).val = c.val / 2
    ∧ ((Layout.meshBlock [2, 2] (![[0], [], []] : Fin 3 → List ℕ) c) 1).val = 0
    ∧ ((Layout.meshBlock [2, 2] (![[0], [], []] : Fin 3 → List ℕ) c) 2).val = 0 := by decide
/-- A device's columns are block `c / 2`, and the rows are not cut. -/
theorem columns_of : ∀ c : Dev nD, ((Layout.meshBlock [2, 2] (![[], [0]] : Fin 2 → List ℕ) c) 0).val = 0
    ∧ ((Layout.meshBlock [2, 2] (![[], [0]] : Fin 2 → List ℕ) c) 1).val = c.val / 2 := by decide

variable {m : (ℓ : Loc nD τ sig) → Buf (Elt Ideal) ℓ} {W : SW.Idx → EReal}

/-- An element of a device's input is an entry of the device's slice. -/
theorem xin_entry (H : Holds m W) (c : Dev nD) (i : S1x4096x2048.Idx) {r t : ℕ} (hr : (i 1).val = r) (ht : (i 2).val = t) :
    xin m c i = entry W (c.val / 2) r t := by
  have h0 : (i 0).val = 0 := Nat.lt_one_iff.1 (i 0).isLt
  obtain ⟨e0, e1, e2⟩ := slice_of c
  rw [H c, Layout.blockN_apply]
  refine entry_of W _ ?_ ?_ ?_
  · refine (Layout.TilesN.idx_val _ _ _ 0).trans ?_
    show ((Layout.meshBlock [2, 2] (![[0], [], []] : Fin 3 → List ℕ) c) 0).val * 1 + (i 0).val = _
    rw [e0, h0]; omega
  · refine (Layout.TilesN.idx_val _ _ _ 1).trans ?_
    show ((Layout.meshBlock [2, 2] (![[0], [], []] : Fin 3 → List ℕ) c) 1).val * 4096 + (i 1).val = _
    rw [e1, hr]; omega
  · refine (Layout.TilesN.idx_val _ _ _ 2).trans ?_
    show ((Layout.meshBlock [2, 2] (![[0], [], []] : Fin 3 → List ℕ) c) 2).val * 2048 + (i 2).val = _
    rw [e2, ht]; omega

/-- A part of 256 rows and 1024 columns of a device's input, from row `R` and column `T` on, read at an element. -/
theorem part_entry (H : Holds m W) (c : Dev nD) (o : Fin 3 → ℕ) (ho : ∀ a, o a + S1x256x1024.size a ≤ S1x4096x2048.size a) {R T : ℕ}
    (e : o = ![0, R, T]) (x : Fin 256) (y : Fin 1024) :
    ((xM.slice (Rect.unit (s := S1x4096x2048) o S1x256x1024.size ho) (fun _ => rfl)).squeeze S256x1024 squeezes_S1x256x1024_S256x1024).view.read
      (Elt Ideal) (xin m c) (ix2 x y) = entry W (c.val / 2) (R + x.val) (T + y.val) := by
  have hy : Shape.reshapeEquiv (squeezes_S1x256x1024_S256x1024).numel_eq (ix2 x y) = ix3 (⟨0, Nat.one_pos⟩ : Fin 1) x y :=
    ValueIdx.reshapeEquiv_ix2_1ab _ x y
  show xin m c ((Rect.unit (s := S1x4096x2048) o S1x256x1024.size ho).emb (Shape.reshapeEquiv (squeezes_S1x256x1024_S256x1024).numel_eq (ix2 x y))) = _
  rw [hy]
  subst e
  exact xin_entry H c _ (ValueKit.rect_emb_unit_val (s := S1x4096x2048) _ _ ho _ 1) (ValueKit.rect_emb_unit_val (s := S1x4096x2048) _ _ ho _ 2)

/-! ## The chunks -/

/-- The first neighbour has the other first coordinate and the same second. -/
theorem xdev_coords : ∀ c : Dev nD, (xdev c).val / 2 = 1 - c.val / 2 ∧ (xdev c).val % 2 = c.val % 2 := by unfold xdev; decide +kernel
/-- The second neighbour has the same first coordinate and the other second. -/
theorem ydev_coords : ∀ c : Dev nD, (ydev c).val / 2 = c.val / 2 ∧ (ydev c).val % 2 = 1 - c.val % 2 := by unfold ydev; decide +kernel

/-- What a device sends are entries of its slice, in the neighbour's columns. -/
theorem sent_entry (H : Holds m W) (c : Dev nD) (k : Fin 8) (x : Fin 256) (y : Fin 1024) :
    sent m c k (ix2 x y) = entry W (c.val / 2) (2048 * (c.val % 2) + 256 * k.val + x.val) (1024 - 1024 * (c.val / 2) + y.val) :=
  part_entry H c _ (k0_off1_inb c k) (k0_off1_eq c k) x y

/-- What a device receives from the first neighbour are entries of the other slice, in its own columns. -/
theorem gotX_entry (H : Holds m W) (c : Dev nD) (k : Fin 8) (x : Fin 256) (y : Fin 1024) :
    gotX m c k (ix2 x y) = entry W (1 - c.val / 2) (2048 * (c.val % 2) + 256 * k.val + x.val) (1024 * (c.val / 2) + y.val) := by
  have hc : c.val / 2 < 2 := by have : c.val < 4 := c.isLt; omega
  unfold gotX
  rw [sent_entry H, (xdev_coords c).1, (xdev_coords c).2]
  exact congrArg (entry W _ _) (by omega)

/-- What it receives from the second neighbour are entries of the other slice too, in the other half of the rows. -/
theorem gotY_entry (H : Holds m W) (c : Dev nD) (k : Fin 8) (x : Fin 256) (y : Fin 1024) :
    gotY m c k (ix2 x y) = entry W (1 - c.val / 2) ((256 * k.val + 2048) - 2048 * (c.val % 2) + x.val) (1024 * (c.val / 2) + y.val) := by
  unfold gotY
  rw [gotX_entry H, (ydev_coords c).1, (ydev_coords c).2]
  have hr : 2048 * (1 - c.val % 2) + 256 * k.val + x.val = (256 * k.val + 2048) - 2048 * (c.val % 2) + x.val := by omega
  rw [hr]

/-- The sum of the two slices at a row and a column. -/
def both (W : SW.Idx → EReal) (r t : ℕ) : EReal := entry W 0 r t + entry W 1 r t

/-- A device's slice and the other one, in either order. -/
theorem both_of (c : Dev nD) (r t : ℕ) : entry W (c.val / 2) r t + entry W (1 - c.val / 2) r t = both W r t := by
  have hc : c.val / 2 = 0 ∨ c.val / 2 = 1 := by have : c.val < 4 := c.isLt; omega
  unfold both
  rcases hc with h | h <;> rw [h]
  exact add_comm _ _

/-- A computed chunk of the device's own half of the rows is the sum of the slices there. -/
theorem outA_entry (H : Holds m W) (c : Dev nD) (k : Fin 8) (x : Fin 256) (y : Fin 1024) :
    outA m c k (ix2 x y) = both W (2048 * (c.val % 2) + 256 * k.val + x.val) (1024 * (c.val / 2) + y.val) := by
  rw [← both_of c, ← gotX_entry H]
  exact congrArg (fun z : EReal => z + gotX m c k (ix2 x y)) (part_entry H c _ (k0_off2_inb c k) (k0_off2_eq c k) x y)
/-- A computed chunk of the other half is the sum of the slices there. -/
theorem outB_entry (H : Holds m W) (c : Dev nD) (k : Fin 8) (x : Fin 256) (y : Fin 1024) :
    outB m c k (ix2 x y) = both W ((256 * k.val + 2048) - 2048 * (c.val % 2) + x.val) (1024 * (c.val / 2) + y.val) := by
  rw [← both_of c, ← gotY_entry H]
  exact congrArg (fun z : EReal => z + gotY m c k (ix2 x y)) (part_entry H c _ (k0_off3_inb c k) (k0_off3_eq c k) x y)

/-! ## The result -/

/-- An element of the result that lies in a block of rows is read through the block. -/
theorem through_block (o : Fin 2 → ℕ) (ho : ∀ a, o a + S256x1024.size a ≤ S4096x1024.size a) {R : ℕ} (e : o = ![R, 0])
    (f : S4096x1024.Idx → EReal) (i : S4096x1024.Idx) (h : R ≤ (i 0).val) (h' : (i 0).val - R < 256) :
    f i = (outM.slice (Rect.unit (s := S4096x1024) o S256x1024.size ho) (fun _ => rfl)).view.read (Elt Ideal) f (ix2 ⟨(i 0).val - R, h'⟩ (i 1)) := by
  show f i = f ((Rect.unit (s := S4096x1024) o S256x1024.size ho).emb (ix2 ⟨(i 0).val - R, h'⟩ (i 1)))
  congr 1
  subst e
  funext a
  apply Fin.ext
  rw [ValueKit.rect_emb_unit_val]
  match a with
  | 0 => show (i 0).val = R + ((i 0).val - R); omega
  | 1 => show (i 1).val = 0 + (i 1).val; omega

/-- A device whose result's blocks hold the computed chunks holds the sum of the slices, in its own columns. -/
theorem ends_entry (H : Holds m W) (c : Dev nD) (s : MemSt nD τ sig (Elt Ideal)) (hE : Ends m c s) (i : S4096x1024.Idx) :
    s.mem ((c : Thread nD τ).loc main_v1) i = both W (i 0).val (1024 * (c.val / 2) + (i 1).val) := by
  obtain ⟨-, hA, hB⟩ := hE
  rcases dst_cases c i with ⟨k, hk⟩ | ⟨k, hk⟩
  · have hk := (mem_dstA c k i).1 hk
    refine (through_block _ (k0_off4_inb c k) (k0_off4_eq c k) _ i hk.1 (by omega)).trans ((congrFun (hA k) _).trans ?_)
    exact (outA_entry H c k ⟨(i 0).val - _, _⟩ (i 1)).trans (congrArg (fun r => both W r _) (Nat.add_sub_cancel' hk.1))
  · have hk := (mem_dstB c k i).1 hk
    refine (through_block _ (k0_off5_inb c k) (k0_off5_eq c k) _ i hk.1 (by omega)).trans ((congrFun (hB k) _).trans ?_)
    exact (outB_entry H c k ⟨(i 0).val - _, _⟩ (i 1)).trans (congrArg (fun r => both W r _) (Nat.add_sub_cancel' hk.1))

/-- So a device's result is its columns of any array that holds the sum of the slices. -/
theorem ends_block (H : Holds m W) (c : Dev nD) (s : MemSt nD τ sig (Elt Ideal)) (hE : Ends m c s) (V : SR.Idx → EReal)
    (hV : ∀ j : SR.Idx, V j = both W (j 0).val (j 1).val) :
    s.mem ((c : Thread nD τ).loc main_v1) = Layout.blockN ⟨2, ![4096, 1024]⟩ SR (Layout.meshBlock [2, 2] ![[], [0]] c) V := by
  funext i
  obtain ⟨e0, e1⟩ := columns_of c
  refine (ends_entry H c s hE i).trans ?_
  rw [Layout.blockN_apply, hV]
  congr 1
  · refine Eq.trans ?_ (Layout.TilesN.idx_val _ _ _ 0).symm
    show (i 0).val = ((Layout.meshBlock [2, 2] (![[], [0]] : Fin 2 → List ℕ) c) 0).val * 4096 + (i 0).val
    rw [e0]; omega
  · refine Eq.trans ?_ (Layout.TilesN.idx_val _ _ _ 1).symm
    show _ = ((Layout.meshBlock [2, 2] (![[], [0]] : Fin 2 → List ℕ) c) 1).val * 1024 + (i 1).val
    rw [e1]; omega

/-- The reference's result holds the sum of the slices. -/
theorem reference_entry [Cert.ReferenceIdeal.Facts] (X : FVec Ideal Cert.ReferenceIdeal.S2x4096x2048 .f32) (j : SR.Idx) :
    (truncf .bf16 (Host.reduceAdd X (constant Cert.ReferenceIdeal.S_ .f32 0x00000000#32)
      Cert.ReferenceIdeal.Facts₀.reducesTo_S2x4096x2048_S4096x2048_d0 Cert.ReferenceIdeal.Facts₀.h_S_)
      Cert.ReferenceIdeal.Facts₀.bitsLt_bf16_f32 : FVec Ideal Cert.ReferenceIdeal.S4096x2048 .bf16) j = both X (j 0).val (j 1).val := by
  refine (Ideal.hostReduceAdd_r3_a0 _ X (Ideal.ofBits .f32 0x00000000#32) j).trans ?_
  rw [Ideal.ofBits_zero_f32, zero_add, Fin.sum_univ_two]
  exact congrArg₂ (fun a b : EReal => a + b) (entry_of X _ rfl rfl rfl) (entry_of X _ rfl rfl rfl)

end Cert.KernelIdeal.Exchange

end
-- ==== Proof.lean ====
/- The proof of the certificate's claim. The kernel's run (Proof/Run.lean) is proved once, over any float values: its
   instance at words gives the kernel's frame, its instance at the extended reals the ideal kernel's frame and, with
   Proof/Value.lean, the equation with the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.KernelIdeal.Exchange

set_option maxRecDepth 20000 in
/-- Every execution of the kernel ends, its argument unchanged and every counter at zero: the two programs have the same
    text, so this is the run at words. -/
theorem frame_kernel : Cert.quiescent_Kernel := fun m ρ _ =>
  (θ_run (Cert.KernelIdeal.defs (F := Bits)) _ _).mono (fun _ h => ⟨fun c => (h.1 c).1, h.2⟩) (run_main (F := Bits) m ρ)

/-- Every execution of the ideal kernel ends, its argument unchanged and every counter at zero. -/
theorem frame_kernelIdeal : Cert.quiescent_KernelIdeal := fun m ρ _ =>
  (θ_run (Cert.KernelIdeal.defs (F := Ideal)) _ _).mono (fun _ h => ⟨fun c => (h.1 c).1, h.2⟩) (run_main (F := Ideal) m ρ)

/-- Every execution of the reference ends, its argument unchanged; it declares no semaphore, so every counter is at zero. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- On a mesh whose devices hold the slices of the reference's argument, each device's result is its columns of the
    reference's result. -/
theorem value : Cert.algebraic_KernelIdeal_ReferenceIdeal := fun m g m' g' _ hm =>
  ⟨_, (θ_run (Cert.KernelIdeal.defs (F := Ideal)) _ _).mono
      (fun r h c => ⟨ends_block hm c r.2 (h.1 c) _ fun j => reference_entry _ j, (h.1 c).1⟩) (run_main (F := Ideal) m g),
    (θ_run (Cert.ReferenceIdeal.defs (F := Ideal)) _ _).mono (fun _ h => h 0) (Cert.ReferenceIdeal.Value.run (F := Ideal) m' g')⟩

/-- The certificate's claim: the three frames, the idealization and the equation. -/
theorem claim : Cert.Claim := ⟨Cert.Kernel.Gen.facts, Cert.KernelIdeal.Gen.facts, Cert.ReferenceIdeal.Gen.facts,
  frame_kernel, frame_kernelIdeal, frame_reference, trivial, value⟩

end Cert.Proof

end
